-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_vocab [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_vocab [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_vocab m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_vocab [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_vocab m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel)
    ∧ quiescent_KernelIdeal (hKernelIdeal := hKernelIdeal)
    ∧ quiescent_KernelIdeal_pre_in_vocab (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal_pre_in_vocab (hKernelIdeal := hKernelIdeal) (hReferenceIdeal := hReferenceIdeal) (hPre_in_vocab := hPre_in_vocab)
-- ==== Pre_in_vocab.lean ====
abbrev S1024x1024 : Shape := ⟨2, ![1024, 1024]⟩
abbrev S32x16 : Shape := ⟨2, ![32, 16]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : IVec S1024x1024 32) (main_arg1 : FVec F S32x16 .f32) : IVec S_ 1 :=
  let main_c : IVec S_ 32 := constantI S_ 32 0#32
  let main_v0 : IVec S1024x1024 32 := broadcastInDim S1024x1024 ![] bcast_S_S1024x1024 main_c
  let main_v1 : IVec S1024x1024 1 := cmpi .sge main_arg0 main_v0
  let main_c_0 : IVec S_ 32 := constantI S_ 32 32#32
  let main_v2 : IVec S1024x1024 32 := broadcastInDim S1024x1024 ![] bcast_S_S1024x1024 main_c_0
  let main_v3 : IVec S1024x1024 1 := cmpi .slt main_arg0 main_v2
  let main_v4 : IVec S1024x1024 1 := andi main_v1 main_v3
  let main_c_1 : IVec S_ 1 := constantI S_ 1 1#1
  let main_v5 : IVec S_ 1 := (fun x v => Host.reduce IntOp.andi x v reducesTo_S1024x1024_S_d0_1 h_S_) main_v4 main_c_1
  main_v5
-- ==== Kernel.lean ====
abbrev S1024x1024 : Shape := ⟨2, ![1024, 1024]⟩
abbrev S32x16 : Shape := ⟨2, ![32, 16]⟩
abbrev S16x32 : Shape := ⟨2, ![16, 32]⟩
abbrev S16x1024x1024 : Shape := ⟨3, ![16, 1024, 1024]⟩
abbrev S2x2x1024 : Shape := ⟨3, ![2, 2, 1024]⟩
abbrev S2x16x2x1024 : Shape := ⟨4, ![2, 16, 2, 1024]⟩
abbrev S_ : Shape := ⟨0, ![]⟩
abbrev S1x2x1024 : Shape := ⟨3, ![1, 2, 1024]⟩
abbrev S2x1024 : Shape := ⟨2, ![2, 1024]⟩
abbrev S1x8x2x1024 : Shape := ⟨4, ![1, 8, 2, 1024]⟩
abbrev S8x2x1024 : Shape := ⟨3, ![8, 2, 1024]⟩
abbrev S16 : Shape := ⟨1, ![16]⟩
abbrev S1x1x16 : Shape := ⟨3, ![1, 1, 16]⟩
abbrev S1x16 : Shape := ⟨2, ![1, 16]⟩
abbrev S1x1x1x16 : Shape := ⟨4, ![1, 1, 1, 16]⟩

abbrev nBuf : Table → Nat
  | .hbm => 4
  | .local .scVector .vmem => 3
  | _ => 0

abbrev bufTy : (tb : Table) → Fin (nBuf tb) → BufTy
  | .hbm, ⟨0, _⟩ => ⟨S1024x1024, .i32⟩
  | .hbm, ⟨1, _⟩ => ⟨S32x16, .f32⟩
  | .hbm, ⟨2, _⟩ => ⟨S16x32, .f32⟩
  | .hbm, ⟨3, _⟩ => ⟨S16x1024x1024, .f32⟩
  | .local .scVector .vmem, ⟨0, _⟩ => ⟨S16x32, .f32⟩
  | .local .scVector .vmem, ⟨1, _⟩ => ⟨S2x2x1024, .i32⟩
  | .local .scVector .vmem, ⟨2, _⟩ => ⟨S2x16x2x1024, .f32⟩
  | _, _ => ⟨S1024x1024, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.addi v2 c0_i32
  let c0_i32_3 : BitVec 32 := 0#32
  ![v3.toNat, 0]
@[reducible] def k0_t1_loop : Scf.Loop 32 :=
  let c0_i32_34 : BitVec 32 := 0#32
  let c8_i32_35 : BitVec 32 := 8#32
  let v17 : BitVec 32 := Scalar.addi c0_i32_34 c8_i32_35
  let c1_i32_36 : BitVec 32 := 1#32
  ⟨c0_i32_34, v17, c1_i32_36⟩
@[reducible] def k0_t2_loop : Scf.Loop 32 :=
  let c0_i32_104 : BitVec 32 := 0#32
  let c64_i32 : BitVec 32 := 64#32
  let v53 : BitVec 32 := Scalar.addi c0_i32_104 c64_i32
  let c1_i32_105 : BitVec 32 := 1#32
  ⟨c0_i32_104, v53, c1_i32_105⟩
def k0_off2 (k0_t2 : Fin k0_t2_loop.trips) : Fin 3 → Nat :=
  let c0_i32_209 : BitVec 32 := 0#32
  let v113 : Index := Scalar.indexCast c0_i32_209
  let c0_i32_210 : BitVec 32 := 0#32
  let v114 : Index := Scalar.indexCast c0_i32_210
  let c0_i32_104 : BitVec 32 := 0#32
  let c1_i32_105 : BitVec 32 := 1#32
  let arg13 : BitVec 32 := Scf.iv c0_i32_104 c1_i32_105 k0_t2
  let c16_i32_208 : BitVec 32 := 16#32
  let v112 : BitVec 32 := Scalar.muli arg13 c16_i32_208
  let v115 : Index := Scalar.indexCast v112
  ![0, 0, v115.toNat]
def k0_off3 (k0_t2 : Fin k0_t2_loop.trips) : Fin 4 → Nat :=
  let c0_i32_215 : BitVec 32 := 0#32
  let v128 : Index := Scalar.indexCast c0_i32_215
  let c0_i32_216 : BitVec 32 := 0#32
  let v129 : Index := Scalar.indexCast c0_i32_216
  let c0_i32_217 : BitVec 32 := 0#32
  let v130 : Index := Scalar.indexCast c0_i32_217
  let c0_i32_104 : BitVec 32 := 0#32
  let c1_i32_105 : BitVec 32 := 1#32
  let arg13 : BitVec 32 := Scf.iv c0_i32_104 c1_i32_105 k0_t2
  let c16_i32_208 : BitVec 32 := 16#32
  let v112 : BitVec 32 := Scalar.muli arg13 c16_i32_208
  let v131 : Index := Scalar.indexCast v112
  ![0, 0, 0, v131.toNat]
def k0_off4 (k0_t2 : Fin k0_t2_loop.trips) : Fin 4 → Nat :=
  let c0_i32_220 : BitVec 32 := 0#32
  let v140 : Index := Scalar.indexCast c0_i32_220
  let c1_i32_221 : BitVec 32 := 1#32
  let v141 : Index := Scalar.indexCast c1_i32_221
  let c0_i32_222 : BitVec 32 := 0#32
  let v142 : Index := Scalar.indexCast c0_i32_222
  let c0_i32_104 : BitVec 32 := 0#32
  let c1_i32_105 : BitVec 32 := 1#32
  let arg13 : BitVec 32 := Scf.iv c0_i32_104 c1_i32_105 k0_t2
  let c16_i32_208 : BitVec 32 := 16#32
  let v112 : BitVec 32 := Scalar.muli arg13 c16_i32_208
  let v143 : Index := Scalar.indexCast v112
  ![0, 1, 0, v143.toNat]
def k0_off5 (k0_t2 : Fin k0_t2_loop.trips) : Fin 4 → Nat :=
  let c0_i32_225 : BitVec 32 := 0#32
  let v152 : Index := Scalar.indexCast c0_i32_225
  let c2_i32_226 : BitVec 32 := 2#32
  let v153 : Index := Scalar.indexCast c2_i32_226
  let c0_i32_227 : BitVec 32 := 0#32
  let v154 : Index := Scalar.indexCast c0_i32_227
  let c0_i32_104 : BitVec 32 := 0#32
  let c1_i32_105 : BitVec 32 := 1#32
  let arg13 : BitVec 32 := Scf.iv c0_i32_104 c1_i32_105 k0_t2
  let c16_i32_208 : BitVec 32 := 16#32
  let v112 : BitVec 32 := Scalar.muli arg13 c16_i32_208
  let v155 : Index := Scalar.indexCast v112
  ![0, 2, 0, v155.toNat]
def k0_off6 (k0_t2 : Fin k0_t2_loop.trips) : Fin 4 → Nat :=
  let c0_i32_230 : BitVec 32 := 0#32
  let v164 : Index := Scalar.indexCast c0_i32_230
  let c3_i32_231 : BitVec 32 := 3#32
  let v165 : Index := Scalar.indexCast c3_i32_231
  let c0_i32_232 : BitVec 32 := 0#32
  let v166 : Index := Scalar.indexCast c0_i32_232
  let c0_i32_104 : BitVec 32 := 0#32
  let c1_i32_105 : BitVec 32 := 1#32
  let arg13 : BitVec 32 := Scf.iv c0_i32_104 c1_i32_105 k0_t2
  let c16_i32_208 : BitVec 32 := 16#32
  let v112 : BitVec 32 := Scalar.muli arg13 c16_i32_208
  let v167 : Index := Scalar.indexCast v112
  ![0, 3, 0, v167.toNat]
def k0_off7 (k0_t2 : Fin k0_t2_loop.trips) : Fin 4 → Nat :=
  let c0_i32_235 : BitVec 32 := 0#32
  let v176 : Index := Scalar.indexCast c0_i32_235
  let c4_i32_236 : BitVec 32 := 4#32
  let v177 : Index := Scalar.indexCast c4_i32_236
  let c0_i32_237 : BitVec 32 := 0#32
  let v178 : Index := Scalar.indexCast c0_i32_237
  let c0_i32_104 : BitVec 32 := 0#32
  let c1_i32_105 : BitVec 32 := 1#32
  let arg13 : BitVec 32 := Scf.iv c0_i32_104 c1_i32_105 k0_t2
  let c16_i32_208 : BitVec 32 := 16#32
  let v112 : BitVec 32 := Scalar.muli arg13 c16_i32_208
  let v179 : Index := Scalar.indexCast v112
  ![0, 4, 0, v179.toNat]
def k0_off8 (k0_t2 : Fin k0_t2_loop.trips) : Fin 4 → Nat :=
  let c0_i32_240 : BitVec 32 := 0#32
  let v188 : Index := Scalar.indexCast c0_i32_240
  let c5_i32_241 : BitVec 32 := 5#32
  let v189 : Index := Scalar.indexCast c5_i32_241
  let c0_i32_242 : BitVec 32 := 0#32
  let v190 : Index := Scalar.indexCast c0_i32_242
  let c0_i32_104 : BitVec 32 := 0#32
  let c1_i32_105 : BitVec 32 := 1#32
  let arg13 : BitVec 32 := Scf.iv c0_i32_104 c1_i32_105 k0_t2
  let c16_i32_208 : BitVec 32 := 16#32
  let v112 : BitVec 32 := Scalar.muli arg13 c16_i32_208
  let v191 : Index := Scalar.indexCast v112
  ![0, 5, 0, v191.toNat]
def k0_off9 (k0_t2 : Fin k0_t2_loop.trips) : Fin 4 → Nat :=
  let c0_i32_245 : BitVec 32 := 0#32
  let v200 : Index := Scalar.indexCast c0_i32_245
  let c6_i32_246 : BitVec 32 := 6#32
  let v201 : Index := Scalar.indexCast c6_i32_246
  let c0_i32_247 : BitVec 32 := 0#32
  let v202 : Index := Scalar.indexCast c0_i32_247
  let c0_i32_104 : BitVec 32 := 0#32
  let c1_i32_105 : BitVec 32 := 1#32
  let arg13 : BitVec 32 := Scf.iv c0_i32_104 c1_i32_105 k0_t2
  let c16_i32_208 : BitVec 32 := 16#32
  let v112 : BitVec 32 := Scalar.muli arg13 c16_i32_208
  let v203 : Index := Scalar.indexCast v112
  ![0, 6, 0, v203.toNat]

def k0_chk1 (v118 : IVec S16 32) : Prop :=
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a)
theorem k0_idx1_inb : ∀ (v118 : IVec S16 32) (k0_hw1 : k0_chk1 v118), ∀ a x, ((![v118] : Fin 1 → IVec S16 32) a x).toNat < S16.size a := fun v118 k0_hw1 => k0_hw1.1
theorem k0_idx2_inb : ∀ (v118 : IVec S16 32) (k0_hw1 : k0_chk1 v118), ∀ a x, ((![v118] : Fin 1 → IVec S16 32) a x).toNat < S16.size a := fun v118 k0_hw1 => k0_hw1.2.1
theorem k0_idx3_inb : ∀ (v118 : IVec S16 32) (k0_hw1 : k0_chk1 v118), ∀ a x, ((![v118] : Fin 1 → IVec S16 32) a x).toNat < S16.size a := fun v118 k0_hw1 => k0_hw1.2.2.1
theorem k0_idx4_inb : ∀ (v118 : IVec S16 32) (k0_hw1 : k0_chk1 v118), ∀ a x, ((![v118] : Fin 1 → IVec S16 32) a x).toNat < S16.size a := fun v118 k0_hw1 => k0_hw1.2.2.2.1
theorem k0_idx5_inb : ∀ (v118 : IVec S16 32) (k0_hw1 : k0_chk1 v118), ∀ a x, ((![v118] : Fin 1 → IVec S16 32) a x).toNat < S16.size a := fun v118 k0_hw1 => k0_hw1.2.2.2.2.1
theorem k0_idx6_inb : ∀ (v118 : IVec S16 32) (k0_hw1 : k0_chk1 v118), ∀ a x, ((![v118] : Fin 1 → IVec S16 32) a x).toNat < S16.size a := fun v118 k0_hw1 => k0_hw1.2.2.2.2.2.1
theorem k0_idx7_inb : ∀ (v118 : IVec S16 32) (k0_hw1 : k0_chk1 v118), ∀ a x, ((![v118] : Fin 1 → IVec S16 32) a x).toNat < S16.size a := fun v118 k0_hw1 => k0_hw1.2.2.2.2.2.2.1
theorem k0_idx8_inb : ∀ (v118 : IVec S16 32) (k0_hw1 : k0_chk1 v118), ∀ a x, ((![v118] : Fin 1 → IVec S16 32) a x).toNat < S16.size a := fun v118 k0_hw1 => k0_hw1.2.2.2.2.2.2.2.1
theorem k0_idx9_inb : ∀ (v118 : IVec S16 32) (k0_hw1 : k0_chk1 v118), ∀ a x, ((![v118] : Fin 1 → IVec S16 32) a x).toNat < S16.size a := fun v118 k0_hw1 => k0_hw1.2.2.2.2.2.2.2.2.1
theorem k0_idx10_inb : ∀ (v118 : IVec S16 32) (k0_hw1 : k0_chk1 v118), ∀ a x, ((![v118] : Fin 1 → IVec S16 32) a x).toNat < S16.size a := fun v118 k0_hw1 => k0_hw1.2.2.2.2.2.2.2.2.2.1
theorem k0_idx11_inb : ∀ (v118 : IVec S16 32) (k0_hw1 : k0_chk1 v118), ∀ a x, ((![v118] : Fin 1 → IVec S16 32) a x).toNat < S16.size a := fun v118 k0_hw1 => k0_hw1.2.2.2.2.2.2.2.2.2.2.1
theorem k0_idx12_inb : ∀ (v118 : IVec S16 32) (k0_hw1 : k0_chk1 v118), ∀ a x, ((![v118] : Fin 1 → IVec S16 32) a x).toNat < S16.size a := fun v118 k0_hw1 => k0_hw1.2.2.2.2.2.2.2.2.2.2.2.1
theorem k0_idx13_inb : ∀ (v118 : IVec S16 32) (k0_hw1 : k0_chk1 v118), ∀ a x, ((![v118] : Fin 1 → IVec S16 32) a x).toNat < S16.size a := fun v118 k0_hw1 => k0_hw1.2.2.2.2.2.2.2.2.2.2.2.2.1
theorem k0_idx14_inb : ∀ (v118 : IVec S16 32) (k0_hw1 : k0_chk1 v118), ∀ a x, ((![v118] : Fin 1 → IVec S16 32) a x).toNat < S16.size a := fun v118 k0_hw1 => k0_hw1.2.2.2.2.2.2.2.2.2.2.2.2.2.1
theorem k0_idx15_inb : ∀ (v118 : IVec S16 32) (k0_hw1 : k0_chk1 v118), ∀ a x, ((![v118] : Fin 1 → IVec S16 32) a x).toNat < S16.size a := fun v118 k0_hw1 => k0_hw1.2.2.2.2.2.2.2.2.2.2.2.2.2.2.1
theorem k0_idx16_inb : ∀ (v118 : IVec S16 32) (k0_hw1 : k0_chk1 v118), ∀ a x, ((![v118] : Fin 1 → IVec S16 32) a x).toNat < S16.size a := fun v118 k0_hw1 => k0_hw1.2.2.2.2.2.2.2.2.2.2.2.2.2.2.2
def k0_off10 (k0_t2 : Fin k0_t2_loop.trips) : Fin 4 → Nat :=
  let c0_i32_250 : BitVec 32 := 0#32
  let v212 : Index := Scalar.indexCast c0_i32_250
  let c7_i32_251 : BitVec 32 := 7#32
  let v213 : Index := Scalar.indexCast c7_i32_251
  let c0_i32_252 : BitVec 32 := 0#32
  let v214 : Index := Scalar.indexCast c0_i32_252
  let c0_i32_104 : BitVec 32 := 0#32
  let c1_i32_105 : BitVec 32 := 1#32
  let arg13 : BitVec 32 := Scf.iv c0_i32_104 c1_i32_105 k0_t2
  let c16_i32_208 : BitVec 32 := 16#32
  let v112 : BitVec 32 := Scalar.muli arg13 c16_i32_208
  let v215 : Index := Scalar.indexCast v112
  ![0, 7, 0, v215.toNat]
@[reducible] def k0_t3_loop : Scf.Loop 32 :=
  let c0_i32_108 : BitVec 32 := 0#32
  let c64_i32_109 : BitVec 32 := 64#32
  let v54 : BitVec 32 := Scalar.addi c0_i32_108 c64_i32_109
  let c1_i32_110 : BitVec 32 := 1#32
  ⟨c0_i32_108, v54, c1_i32_110⟩
def k0_off11 (k0_t3 : Fin k0_t3_loop.trips) : Fin 3 → Nat :=
  let c0_i32_209 : BitVec 32 := 0#32
  let v113 : Index := Scalar.indexCast c0_i32_209
  let c1_i32_210 : BitVec 32 := 1#32
  let v114 : Index := Scalar.indexCast c1_i32_210
  let c0_i32_108 : BitVec 32 := 0#32
  let c1_i32_110 : BitVec 32 := 1#32
  let arg13 : BitVec 32 := Scf.iv c0_i32_108 c1_i32_110 k0_t3
  let c16_i32_208 : BitVec 32 := 16#32
  let v112 : BitVec 32 := Scalar.muli arg13 c16_i32_208
  let v115 : Index := Scalar.indexCast v112
  ![0, 1, v115.toNat]
def k0_off12 (k0_t3 : Fin k0_t3_loop.trips) : Fin 4 → Nat :=
  let c0_i32_215 : BitVec 32 := 0#32
  let v128 : Index := Scalar.indexCast c0_i32_215
  let c0_i32_216 : BitVec 32 := 0#32
  let v129 : Index := Scalar.indexCast c0_i32_216
  let c1_i32_217 : BitVec 32 := 1#32
  let v130 : Index := Scalar.indexCast c1_i32_217
  let c0_i32_108 : BitVec 32 := 0#32
  let c1_i32_110 : BitVec 32 := 1#32
  let arg13 : BitVec 32 := Scf.iv c0_i32_108 c1_i32_110 k0_t3
  let c16_i32_208 : BitVec 32 := 16#32
  let v112 : BitVec 32 := Scalar.muli arg13 c16_i32_208
  let v131 : Index := Scalar.indexCast v112
  ![0, 0, 1, v131.toNat]
def k0_off13 (k0_t3 : Fin k0_t3_loop.trips) : Fin 4 → Nat :=
  let c0_i32_220 : BitVec 32 := 0#32
  let v140 : Index := Scalar.indexCast c0_i32_220
  let c1_i32_221 : BitVec 32 := 1#32
  let v141 : Index := Scalar.indexCast c1_i32_221
  let c1_i32_222 : BitVec 32 := 1#32
  let v142 : Index := Scalar.indexCast c1_i32_222
  let c0_i32_108 : BitVec 32 := 0#32
  let c1_i32_110 : BitVec 32 := 1#32
  let arg13 : BitVec 32 := Scf.iv c0_i32_108 c1_i32_110 k0_t3
  let c16_i32_208 : BitVec 32 := 16#32
  let v112 : BitVec 32 := Scalar.muli arg13 c16_i32_208
  let v143 : Index := Scalar.indexCast v112
  ![0, 1, 1, v143.toNat]
def k0_off14 (k0_t3 : Fin k0_t3_loop.trips) : Fin 4 → Nat :=
  let c0_i32_225 : BitVec 32 := 0#32
  let v152 : Index := Scalar.indexCast c0_i32_225
  let c2_i32_226 : BitVec 32 := 2#32
  let v153 : Index := Scalar.indexCast c2_i32_226
  let c1_i32_227 : BitVec 32 := 1#32
  let v154 : Index := Scalar.indexCast c1_i32_227
  let c0_i32_108 : BitVec 32 := 0#32
  let c1_i32_110 : BitVec 32 := 1#32
  let arg13 : BitVec 32 := Scf.iv c0_i32_108 c1_i32_110 k0_t3
  let c16_i32_208 : BitVec 32 := 16#32
  let v112 : BitVec 32 := Scalar.muli arg13 c16_i32_208
  let v155 : Index := Scalar.indexCast v112
  ![0, 2, 1, v155.toNat]
def k0_off15 (k0_t3 : Fin k0_t3_loop.trips) : Fin 4 → Nat :=
  let c0_i32_230 : BitVec 32 := 0#32
  let v164 : Index := Scalar.indexCast c0_i32_230
  let c3_i32_231 : BitVec 32 := 3#32
  let v165 : Index := Scalar.indexCast c3_i32_231
  let c1_i32_232 : BitVec 32 := 1#32
  let v166 : Index := Scalar.indexCast c1_i32_232
  let c0_i32_108 : BitVec 32 := 0#32
  let c1_i32_110 : BitVec 32 := 1#32
  let arg13 : BitVec 32 := Scf.iv c0_i32_108 c1_i32_110 k0_t3
  let c16_i32_208 : BitVec 32 := 16#32
  let v112 : BitVec 32 := Scalar.muli arg13 c16_i32_208
  let v167 : Index := Scalar.indexCast v112
  ![0, 3, 1, v167.toNat]
def k0_off16 (k0_t3 : Fin k0_t3_loop.trips) : Fin 4 → Nat :=
  let c0_i32_235 : BitVec 32 := 0#32
  let v176 : Index := Scalar.indexCast c0_i32_235
  let c4_i32_236 : BitVec 32 := 4#32
  let v177 : Index := Scalar.indexCast c4_i32_236
  let c1_i32_237 : BitVec 32 := 1#32
  let v178 : Index := Scalar.indexCast c1_i32_237
  let c0_i32_108 : BitVec 32 := 0#32
  let c1_i32_110 : BitVec 32 := 1#32
  let arg13 : BitVec 32 := Scf.iv c0_i32_108 c1_i32_110 k0_t3
  let c16_i32_208 : BitVec 32 := 16#32
  let v112 : BitVec 32 := Scalar.muli arg13 c16_i32_208
  let v179 : Index := Scalar.indexCast v112
  ![0, 4, 1, v179.toNat]
def k0_off17 (k0_t3 : Fin k0_t3_loop.trips) : Fin 4 → Nat :=
  let c0_i32_240 : BitVec 32 := 0#32
  let v188 : Index := Scalar.indexCast c0_i32_240
  let c5_i32_241 : BitVec 32 := 5#32
  let v189 : Index := Scalar.indexCast c5_i32_241
  let c1_i32_242 : BitVec 32 := 1#32
  let v190 : Index := Scalar.indexCast c1_i32_242
  let c0_i32_108 : BitVec 32 := 0#32
  let c1_i32_110 : BitVec 32 := 1#32
  let arg13 : BitVec 32 := Scf.iv c0_i32_108 c1_i32_110 k0_t3
  let c16_i32_208 : BitVec 32 := 16#32
  let v112 : BitVec 32 := Scalar.muli arg13 c16_i32_208
  let v191 : Index := Scalar.indexCast v112
  ![0, 5, 1, v191.toNat]
def k0_off18 (k0_t3 : Fin k0_t3_loop.trips) : Fin 4 → Nat :=
  let c0_i32_245 : BitVec 32 := 0#32
  let v200 : Index := Scalar.indexCast c0_i32_245
  let c6_i32_246 : BitVec 32 := 6#32
  let v201 : Index := Scalar.indexCast c6_i32_246
  let c1_i32_247 : BitVec 32 := 1#32
  let v202 : Index := Scalar.indexCast c1_i32_247
  let c0_i32_108 : BitVec 32 := 0#32
  let c1_i32_110 : BitVec 32 := 1#32
  let arg13 : BitVec 32 := Scf.iv c0_i32_108 c1_i32_110 k0_t3
  let c16_i32_208 : BitVec 32 := 16#32
  let v112 : BitVec 32 := Scalar.muli arg13 c16_i32_208
  let v203 : Index := Scalar.indexCast v112
  ![0, 6, 1, v203.toNat]

def k0_chk2 (v118 : IVec S16 32) : Prop :=
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a)
theorem k0_idx17_inb : ∀ (v118 : IVec S16 32) (k0_hw2 : k0_chk2 v118), ∀ a x, ((![v118] : Fin 1 → IVec S16 32) a x).toNat < S16.size a := fun v118 k0_hw2 => k0_hw2.1
theorem k0_idx18_inb : ∀ (v118 : IVec S16 32) (k0_hw2 : k0_chk2 v118), ∀ a x, ((![v118] : Fin 1 → IVec S16 32) a x).toNat < S16.size a := fun v118 k0_hw2 => k0_hw2.2.1
theorem k0_idx19_inb : ∀ (v118 : IVec S16 32) (k0_hw2 : k0_chk2 v118), ∀ a x, ((![v118] : Fin 1 → IVec S16 32) a x).toNat < S16.size a := fun v118 k0_hw2 => k0_hw2.2.2.1
theorem k0_idx20_inb : ∀ (v118 : IVec S16 32) (k0_hw2 : k0_chk2 v118), ∀ a x, ((![v118] : Fin 1 → IVec S16 32) a x).toNat < S16.size a := fun v118 k0_hw2 => k0_hw2.2.2.2.1
theorem k0_idx21_inb : ∀ (v118 : IVec S16 32) (k0_hw2 : k0_chk2 v118), ∀ a x, ((![v118] : Fin 1 → IVec S16 32) a x).toNat < S16.size a := fun v118 k0_hw2 => k0_hw2.2.2.2.2.1
theorem k0_idx22_inb : ∀ (v118 : IVec S16 32) (k0_hw2 : k0_chk2 v118), ∀ a x, ((![v118] : Fin 1 → IVec S16 32) a x).toNat < S16.size a := fun v118 k0_hw2 => k0_hw2.2.2.2.2.2.1
theorem k0_idx23_inb : ∀ (v118 : IVec S16 32) (k0_hw2 : k0_chk2 v118), ∀ a x, ((![v118] : Fin 1 → IVec S16 32) a x).toNat < S16.size a := fun v118 k0_hw2 => k0_hw2.2.2.2.2.2.2.1
theorem k0_idx24_inb : ∀ (v118 : IVec S16 32) (k0_hw2 : k0_chk2 v118), ∀ a x, ((![v118] : Fin 1 → IVec S16 32) a x).toNat < S16.size a := fun v118 k0_hw2 => k0_hw2.2.2.2.2.2.2.2.1
theorem k0_idx25_inb : ∀ (v118 : IVec S16 32) (k0_hw2 : k0_chk2 v118), ∀ a x, ((![v118] : Fin 1 → IVec S16 32) a x).toNat < S16.size a := fun v118 k0_hw2 => k0_hw2.2.2.2.2.2.2.2.2.1
theorem k0_idx26_inb : ∀ (v118 : IVec S16 32) (k0_hw2 : k0_chk2 v118), ∀ a x, ((![v118] : Fin 1 → IVec S16 32) a x).toNat < S16.size a := fun v118 k0_hw2 => k0_hw2.2.2.2.2.2.2.2.2.2.1
theorem k0_idx27_inb : ∀ (v118 : IVec S16 32) (k0_hw2 : k0_chk2 v118), ∀ a x, ((![v118] : Fin 1 → IVec S16 32) a x).toNat < S16.size a := fun v118 k0_hw2 => k0_hw2.2.2.2.2.2.2.2.2.2.2.1
theorem k0_idx28_inb : ∀ (v118 : IVec S16 32) (k0_hw2 : k0_chk2 v118), ∀ a x, ((![v118] : Fin 1 → IVec S16 32) a x).toNat < S16.size a := fun v118 k0_hw2 => k0_hw2.2.2.2.2.2.2.2.2.2.2.2.1
theorem k0_idx29_inb : ∀ (v118 : IVec S16 32) (k0_hw2 : k0_chk2 v118), ∀ a x, ((![v118] : Fin 1 → IVec S16 32) a x).toNat < S16.size a := fun v118 k0_hw2 => k0_hw2.2.2.2.2.2.2.2.2.2.2.2.2.1
theorem k0_idx30_inb : ∀ (v118 : IVec S16 32) (k0_hw2 : k0_chk2 v118), ∀ a x, ((![v118] : Fin 1 → IVec S16 32) a x).toNat < S16.size a := fun v118 k0_hw2 => k0_hw2.2.2.2.2.2.2.2.2.2.2.2.2.2.1
theorem k0_idx31_inb : ∀ (v118 : IVec S16 32) (k0_hw2 : k0_chk2 v118), ∀ a x, ((![v118] : Fin 1 → IVec S16 32) a x).toNat < S16.size a := fun v118 k0_hw2 => k0_hw2.2.2.2.2.2.2.2.2.2.2.2.2.2.2.1
theorem k0_idx32_inb : ∀ (v118 : IVec S16 32) (k0_hw2 : k0_chk2 v118), ∀ a x, ((![v118] : Fin 1 → IVec S16 32) a x).toNat < S16.size a := fun v118 k0_hw2 => k0_hw2.2.2.2.2.2.2.2.2.2.2.2.2.2.2.2
def k0_off19 (k0_t3 : Fin k0_t3_loop.trips) : Fin 4 → Nat :=
  let c0_i32_250 : BitVec 32 := 0#32
  let v212 : Index := Scalar.indexCast c0_i32_250
  let c7_i32_251 : BitVec 32 := 7#32
  let v213 : Index := Scalar.indexCast c7_i32_251
  let c1_i32_252 : BitVec 32 := 1#32
  let v214 : Index := Scalar.indexCast c1_i32_252
  let c0_i32_108 : BitVec 32 := 0#32
  let c1_i32_110 : BitVec 32 := 1#32
  let arg13 : BitVec 32 := Scf.iv c0_i32_108 c1_i32_110 k0_t3
  let c16_i32_208 : BitVec 32 := 16#32
  let v112 : BitVec 32 := Scalar.muli arg13 c16_i32_208
  let v215 : Index := Scalar.indexCast v112
  ![0, 7, 1, v215.toNat]
def k0_off20 (i : grid0.Coords) (k0_t1 : Fin k0_t1_loop.trips) (c0_i32_91 : BitVec 32) : Fin 3 → Nat :=
  let c0_i32_117 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_90 : BitVec 32 := 2#32
  let c0_i32_34 : BitVec 32 := 0#32
  let c1_i32_36 : BitVec 32 := 1#32
  let arg12 : BitVec 32 := Scf.iv c0_i32_34 c1_i32_36 k0_t1
  let v42 : BitVec 32 := Scalar.muli c2_i32_90 arg12
  let v43 : BitVec 32 := Scalar.addi v42 c0_i32_91
  let c2_i32_112 : BitVec 32 := 2#32
  let v55 : BitVec 32 := Scalar.muli v43 c2_i32_112
  let v56 : BitVec 32 := Scalar.addi v2 v55
  let c0_i32_118 : BitVec 32 := 0#32
  ![0, v56.toNat, 0]
@[reducible] def k0_t4_loop : Scf.Loop 32 :=
  let c0_i32_125 : BitVec 32 := 0#32
  let c64_i32_126 : BitVec 32 := 64#32
  let v63 : BitVec 32 := Scalar.addi c0_i32_125 c64_i32_126
  let c1_i32_127 : BitVec 32 := 1#32
  ⟨c0_i32_125, v63, c1_i32_127⟩
def k0_off21 (k0_t4 : Fin k0_t4_loop.trips) : Fin 3 → Nat :=
  let c0_i32_209 : BitVec 32 := 0#32
  let v113 : Index := Scalar.indexCast c0_i32_209
  let c0_i32_210 : BitVec 32 := 0#32
  let v114 : Index := Scalar.indexCast c0_i32_210
  let c0_i32_125 : BitVec 32 := 0#32
  let c1_i32_127 : BitVec 32 := 1#32
  let arg13 : BitVec 32 := Scf.iv c0_i32_125 c1_i32_127 k0_t4
  let c16_i32_208 : BitVec 32 := 16#32
  let v112 : BitVec 32 := Scalar.muli arg13 c16_i32_208
  let v115 : Index := Scalar.indexCast v112
  ![0, 0, v115.toNat]
def k0_off22 (k0_t4 : Fin k0_t4_loop.trips) : Fin 4 → Nat :=
  let c0_i32_215 : BitVec 32 := 0#32
  let v128 : Index := Scalar.indexCast c0_i32_215
  let c8_i32_216 : BitVec 32 := 8#32
  let v129 : Index := Scalar.indexCast c8_i32_216
  let c0_i32_217 : BitVec 32 := 0#32
  let v130 : Index := Scalar.indexCast c0_i32_217
  let c0_i32_125 : BitVec 32 := 0#32
  let c1_i32_127 : BitVec 32 := 1#32
  let arg13 : BitVec 32 := Scf.iv c0_i32_125 c1_i32_127 k0_t4
  let c16_i32_208 : BitVec 32 := 16#32
  let v112 : BitVec 32 := Scalar.muli arg13 c16_i32_208
  let v131 : Index := Scalar.indexCast v112
  ![0, 8, 0, v131.toNat]
def k0_off23 (k0_t4 : Fin k0_t4_loop.trips) : Fin 4 → Nat :=
  let c0_i32_220 : BitVec 32 := 0#32
  let v140 : Index := Scalar.indexCast c0_i32_220
  let c9_i32_221 : BitVec 32 := 9#32
  let v141 : Index := Scalar.indexCast c9_i32_221
  let c0_i32_222 : BitVec 32 := 0#32
  let v142 : Index := Scalar.indexCast c0_i32_222
  let c0_i32_125 : BitVec 32 := 0#32
  let c1_i32_127 : BitVec 32 := 1#32
  let arg13 : BitVec 32 := Scf.iv c0_i32_125 c1_i32_127 k0_t4
  let c16_i32_208 : BitVec 32 := 16#32
  let v112 : BitVec 32 := Scalar.muli arg13 c16_i32_208
  let v143 : Index := Scalar.indexCast v112
  ![0, 9, 0, v143.toNat]
def k0_off24 (k0_t4 : Fin k0_t4_loop.trips) : Fin 4 → Nat :=
  let c0_i32_225 : BitVec 32 := 0#32
  let v152 : Index := Scalar.indexCast c0_i32_225
  let c10_i32_226 : BitVec 32 := 10#32
  let v153 : Index := Scalar.indexCast c10_i32_226
  let c0_i32_227 : BitVec 32 := 0#32
  let v154 : Index := Scalar.indexCast c0_i32_227
  let c0_i32_125 : BitVec 32 := 0#32
  let c1_i32_127 : BitVec 32 := 1#32
  let arg13 : BitVec 32 := Scf.iv c0_i32_125 c1_i32_127 k0_t4
  let c16_i32_208 : BitVec 32 := 16#32
  let v112 : BitVec 32 := Scalar.muli arg13 c16_i32_208
  let v155 : Index := Scalar.indexCast v112
  ![0, 10, 0, v155.toNat]
def k0_off25 (k0_t4 : Fin k0_t4_loop.trips) : Fin 4 → Nat :=
  let c0_i32_230 : BitVec 32 := 0#32
  let v164 : Index := Scalar.indexCast c0_i32_230
  let c11_i32_231 : BitVec 32 := 11#32
  let v165 : Index := Scalar.indexCast c11_i32_231
  let c0_i32_232 : BitVec 32 := 0#32
  let v166 : Index := Scalar.indexCast c0_i32_232
  let c0_i32_125 : BitVec 32 := 0#32
  let c1_i32_127 : BitVec 32 := 1#32
  let arg13 : BitVec 32 := Scf.iv c0_i32_125 c1_i32_127 k0_t4
  let c16_i32_208 : BitVec 32 := 16#32
  let v112 : BitVec 32 := Scalar.muli arg13 c16_i32_208
  let v167 : Index := Scalar.indexCast v112
  ![0, 11, 0, v167.toNat]
def k0_off26 (k0_t4 : Fin k0_t4_loop.trips) : Fin 4 → Nat :=
  let c0_i32_235 : BitVec 32 := 0#32
  let v176 : Index := Scalar.indexCast c0_i32_235
  let c12_i32_236 : BitVec 32 := 12#32
  let v177 : Index := Scalar.indexCast c12_i32_236
  let c0_i32_237 : BitVec 32 := 0#32
  let v178 : Index := Scalar.indexCast c0_i32_237
  let c0_i32_125 : BitVec 32 := 0#32
  let c1_i32_127 : BitVec 32 := 1#32
  let arg13 : BitVec 32 := Scf.iv c0_i32_125 c1_i32_127 k0_t4
  let c16_i32_208 : BitVec 32 := 16#32
  let v112 : BitVec 32 := Scalar.muli arg13 c16_i32_208
  let v179 : Index := Scalar.indexCast v112
  ![0, 12, 0, v179.toNat]
def k0_off27 (k0_t4 : Fin k0_t4_loop.trips) : Fin 4 → Nat :=
  let c0_i32_240 : BitVec 32 := 0#32
  let v188 : Index := Scalar.indexCast c0_i32_240
  let c13_i32_241 : BitVec 32 := 13#32
  let v189 : Index := Scalar.indexCast c13_i32_241
  let c0_i32_242 : BitVec 32 := 0#32
  let v190 : Index := Scalar.indexCast c0_i32_242
  let c0_i32_125 : BitVec 32 := 0#32
  let c1_i32_127 : BitVec 32 := 1#32
  let arg13 : BitVec 32 := Scf.iv c0_i32_125 c1_i32_127 k0_t4
  let c16_i32_208 : BitVec 32 := 16#32
  let v112 : BitVec 32 := Scalar.muli arg13 c16_i32_208
  let v191 : Index := Scalar.indexCast v112
  ![0, 13, 0, v191.toNat]
def k0_off28 (k0_t4 : Fin k0_t4_loop.trips) : Fin 4 → Nat :=
  let c0_i32_245 : BitVec 32 := 0#32
  let v200 : Index := Scalar.indexCast c0_i32_245
  let c14_i32_246 : BitVec 32 := 14#32
  let v201 : Index := Scalar.indexCast c14_i32_246
  let c0_i32_247 : BitVec 32 := 0#32
  let v202 : Index := Scalar.indexCast c0_i32_247
  let c0_i32_125 : BitVec 32 := 0#32
  let c1_i32_127 : BitVec 32 := 1#32
  let arg13 : BitVec 32 := Scf.iv c0_i32_125 c1_i32_127 k0_t4
  let c16_i32_208 : BitVec 32 := 16#32
  let v112 : BitVec 32 := Scalar.muli arg13 c16_i32_208
  let v203 : Index := Scalar.indexCast v112
  ![0, 14, 0, v203.toNat]

def k0_chk3 (v118 : IVec S16 32) : Prop :=
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a)
theorem k0_idx33_inb : ∀ (v118 : IVec S16 32) (k0_hw3 : k0_chk3 v118), ∀ a x, ((![v118] : Fin 1 → IVec S16 32) a x).toNat < S16.size a := fun v118 k0_hw3 => k0_hw3.1
theorem k0_idx34_inb : ∀ (v118 : IVec S16 32) (k0_hw3 : k0_chk3 v118), ∀ a x, ((![v118] : Fin 1 → IVec S16 32) a x).toNat < S16.size a := fun v118 k0_hw3 => k0_hw3.2.1
theorem k0_idx35_inb : ∀ (v118 : IVec S16 32) (k0_hw3 : k0_chk3 v118), ∀ a x, ((![v118] : Fin 1 → IVec S16 32) a x).toNat < S16.size a := fun v118 k0_hw3 => k0_hw3.2.2.1
theorem k0_idx36_inb : ∀ (v118 : IVec S16 32) (k0_hw3 : k0_chk3 v118), ∀ a x, ((![v118] : Fin 1 → IVec S16 32) a x).toNat < S16.size a := fun v118 k0_hw3 => k0_hw3.2.2.2.1
theorem k0_idx37_inb : ∀ (v118 : IVec S16 32) (k0_hw3 : k0_chk3 v118), ∀ a x, ((![v118] : Fin 1 → IVec S16 32) a x).toNat < S16.size a := fun v118 k0_hw3 => k0_hw3.2.2.2.2.1
theorem k0_idx38_inb : ∀ (v118 : IVec S16 32) (k0_hw3 : k0_chk3 v118), ∀ a x, ((![v118] : Fin 1 → IVec S16 32) a x).toNat < S16.size a := fun v118 k0_hw3 => k0_hw3.2.2.2.2.2.1
theorem k0_idx39_inb : ∀ (v118 : IVec S16 32) (k0_hw3 : k0_chk3 v118), ∀ a x, ((![v118] : Fin 1 → IVec S16 32) a x).toNat < S16.size a := fun v118 k0_hw3 => k0_hw3.2.2.2.2.2.2.1
theorem k0_idx40_inb : ∀ (v118 : IVec S16 32) (k0_hw3 : k0_chk3 v118), ∀ a x, ((![v118] : Fin 1 → IVec S16 32) a x).toNat < S16.size a := fun v118 k0_hw3 => k0_hw3.2.2.2.2.2.2.2.1
theorem k0_idx41_inb : ∀ (v118 : IVec S16 32) (k0_hw3 : k0_chk3 v118), ∀ a x, ((![v118] : Fin 1 → IVec S16 32) a x).toNat < S16.size a := fun v118 k0_hw3 => k0_hw3.2.2.2.2.2.2.2.2.1
theorem k0_idx42_inb : ∀ (v118 : IVec S16 32) (k0_hw3 : k0_chk3 v118), ∀ a x, ((![v118] : Fin 1 → IVec S16 32) a x).toNat < S16.size a := fun v118 k0_hw3 => k0_hw3.2.2.2.2.2.2.2.2.2.1
theorem k0_idx43_inb : ∀ (v118 : IVec S16 32) (k0_hw3 : k0_chk3 v118), ∀ a x, ((![v118] : Fin 1 → IVec S16 32) a x).toNat < S16.size a := fun v118 k0_hw3 => k0_hw3.2.2.2.2.2.2.2.2.2.2.1
theorem k0_idx44_inb : ∀ (v118 : IVec S16 32) (k0_hw3 : k0_chk3 v118), ∀ a x, ((![v118] : Fin 1 → IVec S16 32) a x).toNat < S16.size a := fun v118 k0_hw3 => k0_hw3.2.2.2.2.2.2.2.2.2.2.2.1
theorem k0_idx45_inb : ∀ (v118 : IVec S16 32) (k0_hw3 : k0_chk3 v118), ∀ a x, ((![v118] : Fin 1 → IVec S16 32) a x).toNat < S16.size a := fun v118 k0_hw3 => k0_hw3.2.2.2.2.2.2.2.2.2.2.2.2.1
theorem k0_idx46_inb : ∀ (v118 : IVec S16 32) (k0_hw3 : k0_chk3 v118), ∀ a x, ((![v118] : Fin 1 → IVec S16 32) a x).toNat < S16.size a := fun v118 k0_hw3 => k0_hw3.2.2.2.2.2.2.2.2.2.2.2.2.2.1
theorem k0_idx47_inb : ∀ (v118 : IVec S16 32) (k0_hw3 : k0_chk3 v118), ∀ a x, ((![v118] : Fin 1 → IVec S16 32) a x).toNat < S16.size a := fun v118 k0_hw3 => k0_hw3.2.2.2.2.2.2.2.2.2.2.2.2.2.2.1
theorem k0_idx48_inb : ∀ (v118 : IVec S16 32) (k0_hw3 : k0_chk3 v118), ∀ a x, ((![v118] : Fin 1 → IVec S16 32) a x).toNat < S16.size a := fun v118 k0_hw3 => k0_hw3.2.2.2.2.2.2.2.2.2.2.2.2.2.2.2
def k0_off29 (k0_t4 : Fin k0_t4_loop.trips) : Fin 4 → Nat :=
  let c0_i32_250 : BitVec 32 := 0#32
  let v212 : Index := Scalar.indexCast c0_i32_250
  let c15_i32_251 : BitVec 32 := 15#32
  let v213 : Index := Scalar.indexCast c15_i32_251
  let c0_i32_252 : BitVec 32 := 0#32
  let v214 : Index := Scalar.indexCast c0_i32_252
  let c0_i32_125 : BitVec 32 := 0#32
  let c1_i32_127 : BitVec 32 := 1#32
  let arg13 : BitVec 32 := Scf.iv c0_i32_125 c1_i32_127 k0_t4
  let c16_i32_208 : BitVec 32 := 16#32
  let v112 : BitVec 32 := Scalar.muli arg13 c16_i32_208
  let v215 : Index := Scalar.indexCast v112
  ![0, 15, 0, v215.toNat]
@[reducible] def k0_t5_loop : Scf.Loop 32 :=
  let c0_i32_130 : BitVec 32 := 0#32
  let c64_i32_131 : BitVec 32 := 64#32
  let v64 : BitVec 32 := Scalar.addi c0_i32_130 c64_i32_131
  let c1_i32_132 : BitVec 32 := 1#32
  ⟨c0_i32_130, v64, c1_i32_132⟩
def k0_off30 (k0_t5 : Fin k0_t5_loop.trips) : Fin 3 → Nat :=
  let c0_i32_209 : BitVec 32 := 0#32
  let v113 : Index := Scalar.indexCast c0_i32_209
  let c1_i32_210 : BitVec 32 := 1#32
  let v114 : Index := Scalar.indexCast c1_i32_210
  let c0_i32_130 : BitVec 32 := 0#32
  let c1_i32_132 : BitVec 32 := 1#32
  let arg13 : BitVec 32 := Scf.iv c0_i32_130 c1_i32_132 k0_t5
  let c16_i32_208 : BitVec 32 := 16#32
  let v112 : BitVec 32 := Scalar.muli arg13 c16_i32_208
  let v115 : Index := Scalar.indexCast v112
  ![0, 1, v115.toNat]
def k0_off31 (k0_t5 : Fin k0_t5_loop.trips) : Fin 4 → Nat :=
  let c0_i32_215 : BitVec 32 := 0#32
  let v128 : Index := Scalar.indexCast c0_i32_215
  let c8_i32_216 : BitVec 32 := 8#32
  let v129 : Index := Scalar.indexCast c8_i32_216
  let c1_i32_217 : BitVec 32 := 1#32
  let v130 : Index := Scalar.indexCast c1_i32_217
  let c0_i32_130 : BitVec 32 := 0#32
  let c1_i32_132 : BitVec 32 := 1#32
  let arg13 : BitVec 32 := Scf.iv c0_i32_130 c1_i32_132 k0_t5
  let c16_i32_208 : BitVec 32 := 16#32
  let v112 : BitVec 32 := Scalar.muli arg13 c16_i32_208
  let v131 : Index := Scalar.indexCast v112
  ![0, 8, 1, v131.toNat]
def k0_off32 (k0_t5 : Fin k0_t5_loop.trips) : Fin 4 → Nat :=
  let c0_i32_220 : BitVec 32 := 0#32
  let v140 : Index := Scalar.indexCast c0_i32_220
  let c9_i32_221 : BitVec 32 := 9#32
  let v141 : Index := Scalar.indexCast c9_i32_221
  let c1_i32_222 : BitVec 32 := 1#32
  let v142 : Index := Scalar.indexCast c1_i32_222
  let c0_i32_130 : BitVec 32 := 0#32
  let c1_i32_132 : BitVec 32 := 1#32
  let arg13 : BitVec 32 := Scf.iv c0_i32_130 c1_i32_132 k0_t5
  let c16_i32_208 : BitVec 32 := 16#32
  let v112 : BitVec 32 := Scalar.muli arg13 c16_i32_208
  let v143 : Index := Scalar.indexCast v112
  ![0, 9, 1, v143.toNat]
def k0_off33 (k0_t5 : Fin k0_t5_loop.trips) : Fin 4 → Nat :=
  let c0_i32_225 : BitVec 32 := 0#32
  let v152 : Index := Scalar.indexCast c0_i32_225
  let c10_i32_226 : BitVec 32 := 10#32
  let v153 : Index := Scalar.indexCast c10_i32_226
  let c1_i32_227 : BitVec 32 := 1#32
  let v154 : Index := Scalar.indexCast c1_i32_227
  let c0_i32_130 : BitVec 32 := 0#32
  let c1_i32_132 : BitVec 32 := 1#32
  let arg13 : BitVec 32 := Scf.iv c0_i32_130 c1_i32_132 k0_t5
  let c16_i32_208 : BitVec 32 := 16#32
  let v112 : BitVec 32 := Scalar.muli arg13 c16_i32_208
  let v155 : Index := Scalar.indexCast v112
  ![0, 10, 1, v155.toNat]
def k0_off34 (k0_t5 : Fin k0_t5_loop.trips) : Fin 4 → Nat :=
  let c0_i32_230 : BitVec 32 := 0#32
  let v164 : Index := Scalar.indexCast c0_i32_230
  let c11_i32_231 : BitVec 32 := 11#32
  let v165 : Index := Scalar.indexCast c11_i32_231
  let c1_i32_232 : BitVec 32 := 1#32
  let v166 : Index := Scalar.indexCast c1_i32_232
  let c0_i32_130 : BitVec 32 := 0#32
  let c1_i32_132 : BitVec 32 := 1#32
  let arg13 : BitVec 32 := Scf.iv c0_i32_130 c1_i32_132 k0_t5
  let c16_i32_208 : BitVec 32 := 16#32
  let v112 : BitVec 32 := Scalar.muli arg13 c16_i32_208
  let v167 : Index := Scalar.indexCast v112
  ![0, 11, 1, v167.toNat]
def k0_off35 (k0_t5 : Fin k0_t5_loop.trips) : Fin 4 → Nat :=
  let c0_i32_235 : BitVec 32 := 0#32
  let v176 : Index := Scalar.indexCast c0_i32_235
  let c12_i32_236 : BitVec 32 := 12#32
  let v177 : Index := Scalar.indexCast c12_i32_236
  let c1_i32_237 : BitVec 32 := 1#32
  let v178 : Index := Scalar.indexCast c1_i32_237
  let c0_i32_130 : BitVec 32 := 0#32
  let c1_i32_132 : BitVec 32 := 1#32
  let arg13 : BitVec 32 := Scf.iv c0_i32_130 c1_i32_132 k0_t5
  let c16_i32_208 : BitVec 32 := 16#32
  let v112 : BitVec 32 := Scalar.muli arg13 c16_i32_208
  let v179 : Index := Scalar.indexCast v112
  ![0, 12, 1, v179.toNat]
def k0_off36 (k0_t5 : Fin k0_t5_loop.trips) : Fin 4 → Nat :=
  let c0_i32_240 : BitVec 32 := 0#32
  let v188 : Index := Scalar.indexCast c0_i32_240
  let c13_i32_241 : BitVec 32 := 13#32
  let v189 : Index := Scalar.indexCast c13_i32_241
  let c1_i32_242 : BitVec 32 := 1#32
  let v190 : Index := Scalar.indexCast c1_i32_242
  let c0_i32_130 : BitVec 32 := 0#32
  let c1_i32_132 : BitVec 32 := 1#32
  let arg13 : BitVec 32 := Scf.iv c0_i32_130 c1_i32_132 k0_t5
  let c16_i32_208 : BitVec 32 := 16#32
  let v112 : BitVec 32 := Scalar.muli arg13 c16_i32_208
  let v191 : Index := Scalar.indexCast v112
  ![0, 13, 1, v191.toNat]
def k0_off37 (k0_t5 : Fin k0_t5_loop.trips) : Fin 4 → Nat :=
  let c0_i32_245 : BitVec 32 := 0#32
  let v200 : Index := Scalar.indexCast c0_i32_245
  let c14_i32_246 : BitVec 32 := 14#32
  let v201 : Index := Scalar.indexCast c14_i32_246
  let c1_i32_247 : BitVec 32 := 1#32
  let v202 : Index := Scalar.indexCast c1_i32_247
  let c0_i32_130 : BitVec 32 := 0#32
  let c1_i32_132 : BitVec 32 := 1#32
  let arg13 : BitVec 32 := Scf.iv c0_i32_130 c1_i32_132 k0_t5
  let c16_i32_208 : BitVec 32 := 16#32
  let v112 : BitVec 32 := Scalar.muli arg13 c16_i32_208
  let v203 : Index := Scalar.indexCast v112
  ![0, 14, 1, v203.toNat]

def k0_chk4 (v118 : IVec S16 32) : Prop :=
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a)
theorem k0_idx49_inb : ∀ (v118 : IVec S16 32) (k0_hw4 : k0_chk4 v118), ∀ a x, ((![v118] : Fin 1 → IVec S16 32) a x).toNat < S16.size a := fun v118 k0_hw4 => k0_hw4.1
theorem k0_idx50_inb : ∀ (v118 : IVec S16 32) (k0_hw4 : k0_chk4 v118), ∀ a x, ((![v118] : Fin 1 → IVec S16 32) a x).toNat < S16.size a := fun v118 k0_hw4 => k0_hw4.2.1
theorem k0_idx51_inb : ∀ (v118 : IVec S16 32) (k0_hw4 : k0_chk4 v118), ∀ a x, ((![v118] : Fin 1 → IVec S16 32) a x).toNat < S16.size a := fun v118 k0_hw4 => k0_hw4.2.2.1
theorem k0_idx52_inb : ∀ (v118 : IVec S16 32) (k0_hw4 : k0_chk4 v118), ∀ a x, ((![v118] : Fin 1 → IVec S16 32) a x).toNat < S16.size a := fun v118 k0_hw4 => k0_hw4.2.2.2.1
theorem k0_idx53_inb : ∀ (v118 : IVec S16 32) (k0_hw4 : k0_chk4 v118), ∀ a x, ((![v118] : Fin 1 → IVec S16 32) a x).toNat < S16.size a := fun v118 k0_hw4 => k0_hw4.2.2.2.2.1
theorem k0_idx54_inb : ∀ (v118 : IVec S16 32) (k0_hw4 : k0_chk4 v118), ∀ a x, ((![v118] : Fin 1 → IVec S16 32) a x).toNat < S16.size a := fun v118 k0_hw4 => k0_hw4.2.2.2.2.2.1
theorem k0_idx55_inb : ∀ (v118 : IVec S16 32) (k0_hw4 : k0_chk4 v118), ∀ a x, ((![v118] : Fin 1 → IVec S16 32) a x).toNat < S16.size a := fun v118 k0_hw4 => k0_hw4.2.2.2.2.2.2.1
theorem k0_idx56_inb : ∀ (v118 : IVec S16 32) (k0_hw4 : k0_chk4 v118), ∀ a x, ((![v118] : Fin 1 → IVec S16 32) a x).toNat < S16.size a := fun v118 k0_hw4 => k0_hw4.2.2.2.2.2.2.2.1
theorem k0_idx57_inb : ∀ (v118 : IVec S16 32) (k0_hw4 : k0_chk4 v118), ∀ a x, ((![v118] : Fin 1 → IVec S16 32) a x).toNat < S16.size a := fun v118 k0_hw4 => k0_hw4.2.2.2.2.2.2.2.2.1
theorem k0_idx58_inb : ∀ (v118 : IVec S16 32) (k0_hw4 : k0_chk4 v118), ∀ a x, ((![v118] : Fin 1 → IVec S16 32) a x).toNat < S16.size a := fun v118 k0_hw4 => k0_hw4.2.2.2.2.2.2.2.2.2.1
theorem k0_idx59_inb : ∀ (v118 : IVec S16 32) (k0_hw4 : k0_chk4 v118), ∀ a x, ((![v118] : Fin 1 → IVec S16 32) a x).toNat < S16.size a := fun v118 k0_hw4 => k0_hw4.2.2.2.2.2.2.2.2.2.2.1
theorem k0_idx60_inb : ∀ (v118 : IVec S16 32) (k0_hw4 : k0_chk4 v118), ∀ a x, ((![v118] : Fin 1 → IVec S16 32) a x).toNat < S16.size a := fun v118 k0_hw4 => k0_hw4.2.2.2.2.2.2.2.2.2.2.2.1
theorem k0_idx61_inb : ∀ (v118 : IVec S16 32) (k0_hw4 : k0_chk4 v118), ∀ a x, ((![v118] : Fin 1 → IVec S16 32) a x).toNat < S16.size a := fun v118 k0_hw4 => k0_hw4.2.2.2.2.2.2.2.2.2.2.2.2.1
theorem k0_idx62_inb : ∀ (v118 : IVec S16 32) (k0_hw4 : k0_chk4 v118), ∀ a x, ((![v118] : Fin 1 → IVec S16 32) a x).toNat < S16.size a := fun v118 k0_hw4 => k0_hw4.2.2.2.2.2.2.2.2.2.2.2.2.2.1
theorem k0_idx63_inb : ∀ (v118 : IVec S16 32) (k0_hw4 : k0_chk4 v118), ∀ a x, ((![v118] : Fin 1 → IVec S16 32) a x).toNat < S16.size a := fun v118 k0_hw4 => k0_hw4.2.2.2.2.2.2.2.2.2.2.2.2.2.2.1
theorem k0_idx64_inb : ∀ (v118 : IVec S16 32) (k0_hw4 : k0_chk4 v118), ∀ a x, ((![v118] : Fin 1 → IVec S16 32) a x).toNat < S16.size a := fun v118 k0_hw4 => k0_hw4.2.2.2.2.2.2.2.2.2.2.2.2.2.2.2
def k0_off38 (k0_t5 : Fin k0_t5_loop.trips) : Fin 4 → Nat :=
  let c0_i32_250 : BitVec 32 := 0#32
  let v212 : Index := Scalar.indexCast c0_i32_250
  let c15_i32_251 : BitVec 32 := 15#32
  let v213 : Index := Scalar.indexCast c15_i32_251
  let c1_i32_252 : BitVec 32 := 1#32
  let v214 : Index := Scalar.indexCast c1_i32_252
  let c0_i32_130 : BitVec 32 := 0#32
  let c1_i32_132 : BitVec 32 := 1#32
  let arg13 : BitVec 32 := Scf.iv c0_i32_130 c1_i32_132 k0_t5
  let c16_i32_208 : BitVec 32 := 16#32
  let v112 : BitVec 32 := Scalar.muli arg13 c16_i32_208
  let v215 : Index := Scalar.indexCast v112
  ![0, 15, 1, v215.toNat]
def k0_off39 (i : grid0.Coords) (k0_t1 : Fin k0_t1_loop.trips) (c0_i32_91 : BitVec 32) : Fin 3 → Nat :=
  let c8_i32_139 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_90 : BitVec 32 := 2#32
  let c0_i32_34 : BitVec 32 := 0#32
  let c1_i32_36 : BitVec 32 := 1#32
  let arg12 : BitVec 32 := Scf.iv c0_i32_34 c1_i32_36 k0_t1
  let v42 : BitVec 32 := Scalar.muli c2_i32_90 arg12
  let v43 : BitVec 32 := Scalar.addi v42 c0_i32_91
  let c2_i32_134 : BitVec 32 := 2#32
  let v65 : BitVec 32 := Scalar.muli v43 c2_i32_134
  let v66 : BitVec 32 := Scalar.addi v2 v65
  let c0_i32_140 : BitVec 32 := 0#32
  ![8, v66.toNat, 0]
def k0_cond2 (k0_t1 : Fin k0_t1_loop.trips) : BitVec 1 :=
  let c2_i32_90 : BitVec 32 := 2#32
  let c0_i32_34 : BitVec 32 := 0#32
  let c1_i32_36 : BitVec 32 := 1#32
  let arg12 : BitVec 32 := Scf.iv c0_i32_34 c1_i32_36 k0_t1
  let v42 : BitVec 32 := Scalar.muli c2_i32_90 arg12
  let c0_i32_91 : BitVec 32 := 0#32
  let v43 : BitVec 32 := Scalar.addi v42 c0_i32_91
  let c2_i32_146 : BitVec 32 := 2#32
  let v73 : BitVec 32 := Scalar.addi v43 c2_i32_146
  let c16_i32 : BitVec 32 := 16#32
  let v74 : BitVec 1 := Scalar.cmpi .slt v73 c16_i32
  let v75 : BitVec 32 := Scalar.extui v74
  let c0_i32_147 : BitVec 32 := 0#32
  let v76 : BitVec 1 := Scalar.cmpi .ne v75 c0_i32_147
  v76

def k0_off40 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_90 : BitVec 32 := 2#32
  let c0_i32_34 : BitVec 32 := 0#32
  let c1_i32_36 : BitVec 32 := 1#32
  let arg12 : BitVec 32 := Scf.iv c0_i32_34 c1_i32_36 k0_t1
  let v42 : BitVec 32 := Scalar.muli c2_i32_90 arg12
  let c0_i32_91 : BitVec 32 := 0#32
  let v43 : BitVec 32 := Scalar.addi v42 c0_i32_91
  let c2_i32_208 : BitVec 32 := 2#32
  let v112 : BitVec 32 := Scalar.addi v43 c2_i32_208
  let c2_i32_209 : BitVec 32 := 2#32
  let v113 : BitVec 32 := Scalar.muli v112 c2_i32_209
  let v114 : BitVec 32 := Scalar.addi v2 v113
  let c0_i32_213 : BitVec 32 := 0#32
  ![v114.toNat, 0]
@[reducible] def k0_t6_loop : Scf.Loop 32 :=
  let c0_i32_162 : BitVec 32 := 0#32
  let c64_i32_163 : BitVec 32 := 64#32
  let v88 : BitVec 32 := Scalar.addi c0_i32_162 c64_i32_163
  let c1_i32_164 : BitVec 32 := 1#32
  ⟨c0_i32_162, v88, c1_i32_164⟩
def k0_off41 (k0_t6 : Fin k0_t6_loop.trips) : Fin 3 → Nat :=
  let c1_i32_209 : BitVec 32 := 1#32
  let v113 : Index := Scalar.indexCast c1_i32_209
  let c0_i32_210 : BitVec 32 := 0#32
  let v114 : Index := Scalar.indexCast c0_i32_210
  let c0_i32_162 : BitVec 32 := 0#32
  let c1_i32_164 : BitVec 32 := 1#32
  let arg13 : BitVec 32 := Scf.iv c0_i32_162 c1_i32_164 k0_t6
  let c16_i32_208 : BitVec 32 := 16#32
  let v112 : BitVec 32 := Scalar.muli arg13 c16_i32_208
  let v115 : Index := Scalar.indexCast v112
  ![1, 0, v115.toNat]
def k0_off42 (k0_t6 : Fin k0_t6_loop.trips) : Fin 4 → Nat :=
  let c1_i32_215 : BitVec 32 := 1#32
  let v128 : Index := Scalar.indexCast c1_i32_215
  let c0_i32_216 : BitVec 32 := 0#32
  let v129 : Index := Scalar.indexCast c0_i32_216
  let c0_i32_217 : BitVec 32 := 0#32
  let v130 : Index := Scalar.indexCast c0_i32_217
  let c0_i32_162 : BitVec 32 := 0#32
  let c1_i32_164 : BitVec 32 := 1#32
  let arg13 : BitVec 32 := Scf.iv c0_i32_162 c1_i32_164 k0_t6
  let c16_i32_208 : BitVec 32 := 16#32
  let v112 : BitVec 32 := Scalar.muli arg13 c16_i32_208
  let v131 : Index := Scalar.indexCast v112
  ![1, 0, 0, v131.toNat]
def k0_off43 (k0_t6 : Fin k0_t6_loop.trips) : Fin 4 → Nat :=
  let c1_i32_220 : BitVec 32 := 1#32
  let v140 : Index := Scalar.indexCast c1_i32_220
  let c1_i32_221 : BitVec 32 := 1#32
  let v141 : Index := Scalar.indexCast c1_i32_221
  let c0_i32_222 : BitVec 32 := 0#32
  let v142 : Index := Scalar.indexCast c0_i32_222
  let c0_i32_162 : BitVec 32 := 0#32
  let c1_i32_164 : BitVec 32 := 1#32
  let arg13 : BitVec 32 := Scf.iv c0_i32_162 c1_i32_164 k0_t6
  let c16_i32_208 : BitVec 32 := 16#32
  let v112 : BitVec 32 := Scalar.muli arg13 c16_i32_208
  let v143 : Index := Scalar.indexCast v112
  ![1, 1, 0, v143.toNat]
def k0_off44 (k0_t6 : Fin k0_t6_loop.trips) : Fin 4 → Nat :=
  let c1_i32_225 : BitVec 32 := 1#32
  let v152 : Index := Scalar.indexCast c1_i32_225
  let c2_i32_226 : BitVec 32 := 2#32
  let v153 : Index := Scalar.indexCast c2_i32_226
  let c0_i32_227 : BitVec 32 := 0#32
  let v154 : Index := Scalar.indexCast c0_i32_227
  let c0_i32_162 : BitVec 32 := 0#32
  let c1_i32_164 : BitVec 32 := 1#32
  let arg13 : BitVec 32 := Scf.iv c0_i32_162 c1_i32_164 k0_t6
  let c16_i32_208 : BitVec 32 := 16#32
  let v112 : BitVec 32 := Scalar.muli arg13 c16_i32_208
  let v155 : Index := Scalar.indexCast v112
  ![1, 2, 0, v155.toNat]
def k0_off45 (k0_t6 : Fin k0_t6_loop.trips) : Fin 4 → Nat :=
  let c1_i32_230 : BitVec 32 := 1#32
  let v164 : Index := Scalar.indexCast c1_i32_230
  let c3_i32_231 : BitVec 32 := 3#32
  let v165 : Index := Scalar.indexCast c3_i32_231
  let c0_i32_232 : BitVec 32 := 0#32
  let v166 : Index := Scalar.indexCast c0_i32_232
  let c0_i32_162 : BitVec 32 := 0#32
  let c1_i32_164 : BitVec 32 := 1#32
  let arg13 : BitVec 32 := Scf.iv c0_i32_162 c1_i32_164 k0_t6
  let c16_i32_208 : BitVec 32 := 16#32
  let v112 : BitVec 32 := Scalar.muli arg13 c16_i32_208
  let v167 : Index := Scalar.indexCast v112
  ![1, 3, 0, v167.toNat]
def k0_off46 (k0_t6 : Fin k0_t6_loop.trips) : Fin 4 → Nat :=
  let c1_i32_235 : BitVec 32 := 1#32
  let v176 : Index := Scalar.indexCast c1_i32_235
  let c4_i32_236 : BitVec 32 := 4#32
  let v177 : Index := Scalar.indexCast c4_i32_236
  let c0_i32_237 : BitVec 32 := 0#32
  let v178 : Index := Scalar.indexCast c0_i32_237
  let c0_i32_162 : BitVec 32 := 0#32
  let c1_i32_164 : BitVec 32 := 1#32
  let arg13 : BitVec 32 := Scf.iv c0_i32_162 c1_i32_164 k0_t6
  let c16_i32_208 : BitVec 32 := 16#32
  let v112 : BitVec 32 := Scalar.muli arg13 c16_i32_208
  let v179 : Index := Scalar.indexCast v112
  ![1, 4, 0, v179.toNat]
def k0_off47 (k0_t6 : Fin k0_t6_loop.trips) : Fin 4 → Nat :=
  let c1_i32_240 : BitVec 32 := 1#32
  let v188 : Index := Scalar.indexCast c1_i32_240
  let c5_i32_241 : BitVec 32 := 5#32
  let v189 : Index := Scalar.indexCast c5_i32_241
  let c0_i32_242 : BitVec 32 := 0#32
  let v190 : Index := Scalar.indexCast c0_i32_242
  let c0_i32_162 : BitVec 32 := 0#32
  let c1_i32_164 : BitVec 32 := 1#32
  let arg13 : BitVec 32 := Scf.iv c0_i32_162 c1_i32_164 k0_t6
  let c16_i32_208 : BitVec 32 := 16#32
  let v112 : BitVec 32 := Scalar.muli arg13 c16_i32_208
  let v191 : Index := Scalar.indexCast v112
  ![1, 5, 0, v191.toNat]
def k0_off48 (k0_t6 : Fin k0_t6_loop.trips) : Fin 4 → Nat :=
  let c1_i32_245 : BitVec 32 := 1#32
  let v200 : Index := Scalar.indexCast c1_i32_245
  let c6_i32_246 : BitVec 32 := 6#32
  let v201 : Index := Scalar.indexCast c6_i32_246
  let c0_i32_247 : BitVec 32 := 0#32
  let v202 : Index := Scalar.indexCast c0_i32_247
  let c0_i32_162 : BitVec 32 := 0#32
  let c1_i32_164 : BitVec 32 := 1#32
  let arg13 : BitVec 32 := Scf.iv c0_i32_162 c1_i32_164 k0_t6
  let c16_i32_208 : BitVec 32 := 16#32
  let v112 : BitVec 32 := Scalar.muli arg13 c16_i32_208
  let v203 : Index := Scalar.indexCast v112
  ![1, 6, 0, v203.toNat]

def k0_chk5 (v118 : IVec S16 32) : Prop :=
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a)
theorem k0_idx65_inb : ∀ (v118 : IVec S16 32) (k0_hw5 : k0_chk5 v118), ∀ a x, ((![v118] : Fin 1 → IVec S16 32) a x).toNat < S16.size a := fun v118 k0_hw5 => k0_hw5.1
theorem k0_idx66_inb : ∀ (v118 : IVec S16 32) (k0_hw5 : k0_chk5 v118), ∀ a x, ((![v118] : Fin 1 → IVec S16 32) a x).toNat < S16.size a := fun v118 k0_hw5 => k0_hw5.2.1
theorem k0_idx67_inb : ∀ (v118 : IVec S16 32) (k0_hw5 : k0_chk5 v118), ∀ a x, ((![v118] : Fin 1 → IVec S16 32) a x).toNat < S16.size a := fun v118 k0_hw5 => k0_hw5.2.2.1
theorem k0_idx68_inb : ∀ (v118 : IVec S16 32) (k0_hw5 : k0_chk5 v118), ∀ a x, ((![v118] : Fin 1 → IVec S16 32) a x).toNat < S16.size a := fun v118 k0_hw5 => k0_hw5.2.2.2.1
theorem k0_idx69_inb : ∀ (v118 : IVec S16 32) (k0_hw5 : k0_chk5 v118), ∀ a x, ((![v118] : Fin 1 → IVec S16 32) a x).toNat < S16.size a := fun v118 k0_hw5 => k0_hw5.2.2.2.2.1
theorem k0_idx70_inb : ∀ (v118 : IVec S16 32) (k0_hw5 : k0_chk5 v118), ∀ a x, ((![v118] : Fin 1 → IVec S16 32) a x).toNat < S16.size a := fun v118 k0_hw5 => k0_hw5.2.2.2.2.2.1
theorem k0_idx71_inb : ∀ (v118 : IVec S16 32) (k0_hw5 : k0_chk5 v118), ∀ a x, ((![v118] : Fin 1 → IVec S16 32) a x).toNat < S16.size a := fun v118 k0_hw5 => k0_hw5.2.2.2.2.2.2.1
theorem k0_idx72_inb : ∀ (v118 : IVec S16 32) (k0_hw5 : k0_chk5 v118), ∀ a x, ((![v118] : Fin 1 → IVec S16 32) a x).toNat < S16.size a := fun v118 k0_hw5 => k0_hw5.2.2.2.2.2.2.2.1
theorem k0_idx73_inb : ∀ (v118 : IVec S16 32) (k0_hw5 : k0_chk5 v118), ∀ a x, ((![v118] : Fin 1 → IVec S16 32) a x).toNat < S16.size a := fun v118 k0_hw5 => k0_hw5.2.2.2.2.2.2.2.2.1
theorem k0_idx74_inb : ∀ (v118 : IVec S16 32) (k0_hw5 : k0_chk5 v118), ∀ a x, ((![v118] : Fin 1 → IVec S16 32) a x).toNat < S16.size a := fun v118 k0_hw5 => k0_hw5.2.2.2.2.2.2.2.2.2.1
theorem k0_idx75_inb : ∀ (v118 : IVec S16 32) (k0_hw5 : k0_chk5 v118), ∀ a x, ((![v118] : Fin 1 → IVec S16 32) a x).toNat < S16.size a := fun v118 k0_hw5 => k0_hw5.2.2.2.2.2.2.2.2.2.2.1
theorem k0_idx76_inb : ∀ (v118 : IVec S16 32) (k0_hw5 : k0_chk5 v118), ∀ a x, ((![v118] : Fin 1 → IVec S16 32) a x).toNat < S16.size a := fun v118 k0_hw5 => k0_hw5.2.2.2.2.2.2.2.2.2.2.2.1
theorem k0_idx77_inb : ∀ (v118 : IVec S16 32) (k0_hw5 : k0_chk5 v118), ∀ a x, ((![v118] : Fin 1 → IVec S16 32) a x).toNat < S16.size a := fun v118 k0_hw5 => k0_hw5.2.2.2.2.2.2.2.2.2.2.2.2.1
theorem k0_idx78_inb : ∀ (v118 : IVec S16 32) (k0_hw5 : k0_chk5 v118), ∀ a x, ((![v118] : Fin 1 → IVec S16 32) a x).toNat < S16.size a := fun v118 k0_hw5 => k0_hw5.2.2.2.2.2.2.2.2.2.2.2.2.2.1
theorem k0_idx79_inb : ∀ (v118 : IVec S16 32) (k0_hw5 : k0_chk5 v118), ∀ a x, ((![v118] : Fin 1 → IVec S16 32) a x).toNat < S16.size a := fun v118 k0_hw5 => k0_hw5.2.2.2.2.2.2.2.2.2.2.2.2.2.2.1
theorem k0_idx80_inb : ∀ (v118 : IVec S16 32) (k0_hw5 : k0_chk5 v118), ∀ a x, ((![v118] : Fin 1 → IVec S16 32) a x).toNat < S16.size a := fun v118 k0_hw5 => k0_hw5.2.2.2.2.2.2.2.2.2.2.2.2.2.2.2
def k0_off49 (k0_t6 : Fin k0_t6_loop.trips) : Fin 4 → Nat :=
  let c1_i32_250 : BitVec 32 := 1#32
  let v212 : Index := Scalar.indexCast c1_i32_250
  let c7_i32_251 : BitVec 32 := 7#32
  let v213 : Index := Scalar.indexCast c7_i32_251
  let c0_i32_252 : BitVec 32 := 0#32
  let v214 : Index := Scalar.indexCast c0_i32_252
  let c0_i32_162 : BitVec 32 := 0#32
  let c1_i32_164 : BitVec 32 := 1#32
  let arg13 : BitVec 32 := Scf.iv c0_i32_162 c1_i32_164 k0_t6
  let c16_i32_208 : BitVec 32 := 16#32
  let v112 : BitVec 32 := Scalar.muli arg13 c16_i32_208
  let v215 : Index := Scalar.indexCast v112
  ![1, 7, 0, v215.toNat]
@[reducible] def k0_t7_loop : Scf.Loop 32 :=
  let c0_i32_167 : BitVec 32 := 0#32
  let c64_i32_168 : BitVec 32 := 64#32
  let v89 : BitVec 32 := Scalar.addi c0_i32_167 c64_i32_168
  let c1_i32_169 : BitVec 32 := 1#32
  ⟨c0_i32_167, v89, c1_i32_169⟩
def k0_off50 (k0_t7 : Fin k0_t7_loop.trips) : Fin 3 → Nat :=
  let c1_i32_209 : BitVec 32 := 1#32
  let v113 : Index := Scalar.indexCast c1_i32_209
  let c1_i32_210 : BitVec 32 := 1#32
  let v114 : Index := Scalar.indexCast c1_i32_210
  let c0_i32_167 : BitVec 32 := 0#32
  let c1_i32_169 : BitVec 32 := 1#32
  let arg13 : BitVec 32 := Scf.iv c0_i32_167 c1_i32_169 k0_t7
  let c16_i32_208 : BitVec 32 := 16#32
  let v112 : BitVec 32 := Scalar.muli arg13 c16_i32_208
  let v115 : Index := Scalar.indexCast v112
  ![1, 1, v115.toNat]
def k0_off51 (k0_t7 : Fin k0_t7_loop.trips) : Fin 4 → Nat :=
  let c1_i32_215 : BitVec 32 := 1#32
  let v128 : Index := Scalar.indexCast c1_i32_215
  let c0_i32_216 : BitVec 32 := 0#32
  let v129 : Index := Scalar.indexCast c0_i32_216
  let c1_i32_217 : BitVec 32 := 1#32
  let v130 : Index := Scalar.indexCast c1_i32_217
  let c0_i32_167 : BitVec 32 := 0#32
  let c1_i32_169 : BitVec 32 := 1#32
  let arg13 : BitVec 32 := Scf.iv c0_i32_167 c1_i32_169 k0_t7
  let c16_i32_208 : BitVec 32 := 16#32
  let v112 : BitVec 32 := Scalar.muli arg13 c16_i32_208
  let v131 : Index := Scalar.indexCast v112
  ![1, 0, 1, v131.toNat]
def k0_off52 (k0_t7 : Fin k0_t7_loop.trips) : Fin 4 → Nat :=
  let c1_i32_220 : BitVec 32 := 1#32
  let v140 : Index := Scalar.indexCast c1_i32_220
  let c1_i32_221 : BitVec 32 := 1#32
  let v141 : Index := Scalar.indexCast c1_i32_221
  let c1_i32_222 : BitVec 32 := 1#32
  let v142 : Index := Scalar.indexCast c1_i32_222
  let c0_i32_167 : BitVec 32 := 0#32
  let c1_i32_169 : BitVec 32 := 1#32
  let arg13 : BitVec 32 := Scf.iv c0_i32_167 c1_i32_169 k0_t7
  let c16_i32_208 : BitVec 32 := 16#32
  let v112 : BitVec 32 := Scalar.muli arg13 c16_i32_208
  let v143 : Index := Scalar.indexCast v112
  ![1, 1, 1, v143.toNat]
def k0_off53 (k0_t7 : Fin k0_t7_loop.trips) : Fin 4 → Nat :=
  let c1_i32_225 : BitVec 32 := 1#32
  let v152 : Index := Scalar.indexCast c1_i32_225
  let c2_i32_226 : BitVec 32 := 2#32
  let v153 : Index := Scalar.indexCast c2_i32_226
  let c1_i32_227 : BitVec 32 := 1#32
  let v154 : Index := Scalar.indexCast c1_i32_227
  let c0_i32_167 : BitVec 32 := 0#32
  let c1_i32_169 : BitVec 32 := 1#32
  let arg13 : BitVec 32 := Scf.iv c0_i32_167 c1_i32_169 k0_t7
  let c16_i32_208 : BitVec 32 := 16#32
  let v112 : BitVec 32 := Scalar.muli arg13 c16_i32_208
  let v155 : Index := Scalar.indexCast v112
  ![1, 2, 1, v155.toNat]
def k0_off54 (k0_t7 : Fin k0_t7_loop.trips) : Fin 4 → Nat :=
  let c1_i32_230 : BitVec 32 := 1#32
  let v164 : Index := Scalar.indexCast c1_i32_230
  let c3_i32_231 : BitVec 32 := 3#32
  let v165 : Index := Scalar.indexCast c3_i32_231
  let c1_i32_232 : BitVec 32 := 1#32
  let v166 : Index := Scalar.indexCast c1_i32_232
  let c0_i32_167 : BitVec 32 := 0#32
  let c1_i32_169 : BitVec 32 := 1#32
  let arg13 : BitVec 32 := Scf.iv c0_i32_167 c1_i32_169 k0_t7
  let c16_i32_208 : BitVec 32 := 16#32
  let v112 : BitVec 32 := Scalar.muli arg13 c16_i32_208
  let v167 : Index := Scalar.indexCast v112
  ![1, 3, 1, v167.toNat]
def k0_off55 (k0_t7 : Fin k0_t7_loop.trips) : Fin 4 → Nat :=
  let c1_i32_235 : BitVec 32 := 1#32
  let v176 : Index := Scalar.indexCast c1_i32_235
  let c4_i32_236 : BitVec 32 := 4#32
  let v177 : Index := Scalar.indexCast c4_i32_236
  let c1_i32_237 : BitVec 32 := 1#32
  let v178 : Index := Scalar.indexCast c1_i32_237
  let c0_i32_167 : BitVec 32 := 0#32
  let c1_i32_169 : BitVec 32 := 1#32
  let arg13 : BitVec 32 := Scf.iv c0_i32_167 c1_i32_169 k0_t7
  let c16_i32_208 : BitVec 32 := 16#32
  let v112 : BitVec 32 := Scalar.muli arg13 c16_i32_208
  let v179 : Index := Scalar.indexCast v112
  ![1, 4, 1, v179.toNat]
def k0_off56 (k0_t7 : Fin k0_t7_loop.trips) : Fin 4 → Nat :=
  let c1_i32_240 : BitVec 32 := 1#32
  let v188 : Index := Scalar.indexCast c1_i32_240
  let c5_i32_241 : BitVec 32 := 5#32
  let v189 : Index := Scalar.indexCast c5_i32_241
  let c1_i32_242 : BitVec 32 := 1#32
  let v190 : Index := Scalar.indexCast c1_i32_242
  let c0_i32_167 : BitVec 32 := 0#32
  let c1_i32_169 : BitVec 32 := 1#32
  let arg13 : BitVec 32 := Scf.iv c0_i32_167 c1_i32_169 k0_t7
  let c16_i32_208 : BitVec 32 := 16#32
  let v112 : BitVec 32 := Scalar.muli arg13 c16_i32_208
  let v191 : Index := Scalar.indexCast v112
  ![1, 5, 1, v191.toNat]
def k0_off57 (k0_t7 : Fin k0_t7_loop.trips) : Fin 4 → Nat :=
  let c1_i32_245 : BitVec 32 := 1#32
  let v200 : Index := Scalar.indexCast c1_i32_245
  let c6_i32_246 : BitVec 32 := 6#32
  let v201 : Index := Scalar.indexCast c6_i32_246
  let c1_i32_247 : BitVec 32 := 1#32
  let v202 : Index := Scalar.indexCast c1_i32_247
  let c0_i32_167 : BitVec 32 := 0#32
  let c1_i32_169 : BitVec 32 := 1#32
  let arg13 : BitVec 32 := Scf.iv c0_i32_167 c1_i32_169 k0_t7
  let c16_i32_208 : BitVec 32 := 16#32
  let v112 : BitVec 32 := Scalar.muli arg13 c16_i32_208
  let v203 : Index := Scalar.indexCast v112
  ![1, 6, 1, v203.toNat]

def k0_chk6 (v118 : IVec S16 32) : Prop :=
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a)
theorem k0_idx81_inb : ∀ (v118 : IVec S16 32) (k0_hw6 : k0_chk6 v118), ∀ a x, ((![v118] : Fin 1 → IVec S16 32) a x).toNat < S16.size a := fun v118 k0_hw6 => k0_hw6.1
theorem k0_idx82_inb : ∀ (v118 : IVec S16 32) (k0_hw6 : k0_chk6 v118), ∀ a x, ((![v118] : Fin 1 → IVec S16 32) a x).toNat < S16.size a := fun v118 k0_hw6 => k0_hw6.2.1
theorem k0_idx83_inb : ∀ (v118 : IVec S16 32) (k0_hw6 : k0_chk6 v118), ∀ a x, ((![v118] : Fin 1 → IVec S16 32) a x).toNat < S16.size a := fun v118 k0_hw6 => k0_hw6.2.2.1
theorem k0_idx84_inb : ∀ (v118 : IVec S16 32) (k0_hw6 : k0_chk6 v118), ∀ a x, ((![v118] : Fin 1 → IVec S16 32) a x).toNat < S16.size a := fun v118 k0_hw6 => k0_hw6.2.2.2.1
theorem k0_idx85_inb : ∀ (v118 : IVec S16 32) (k0_hw6 : k0_chk6 v118), ∀ a x, ((![v118] : Fin 1 → IVec S16 32) a x).toNat < S16.size a := fun v118 k0_hw6 => k0_hw6.2.2.2.2.1
theorem k0_idx86_inb : ∀ (v118 : IVec S16 32) (k0_hw6 : k0_chk6 v118), ∀ a x, ((![v118] : Fin 1 → IVec S16 32) a x).toNat < S16.size a := fun v118 k0_hw6 => k0_hw6.2.2.2.2.2.1
theorem k0_idx87_inb : ∀ (v118 : IVec S16 32) (k0_hw6 : k0_chk6 v118), ∀ a x, ((![v118] : Fin 1 → IVec S16 32) a x).toNat < S16.size a := fun v118 k0_hw6 => k0_hw6.2.2.2.2.2.2.1
theorem k0_idx88_inb : ∀ (v118 : IVec S16 32) (k0_hw6 : k0_chk6 v118), ∀ a x, ((![v118] : Fin 1 → IVec S16 32) a x).toNat < S16.size a := fun v118 k0_hw6 => k0_hw6.2.2.2.2.2.2.2.1
theorem k0_idx89_inb : ∀ (v118 : IVec S16 32) (k0_hw6 : k0_chk6 v118), ∀ a x, ((![v118] : Fin 1 → IVec S16 32) a x).toNat < S16.size a := fun v118 k0_hw6 => k0_hw6.2.2.2.2.2.2.2.2.1
theorem k0_idx90_inb : ∀ (v118 : IVec S16 32) (k0_hw6 : k0_chk6 v118), ∀ a x, ((![v118] : Fin 1 → IVec S16 32) a x).toNat < S16.size a := fun v118 k0_hw6 => k0_hw6.2.2.2.2.2.2.2.2.2.1
theorem k0_idx91_inb : ∀ (v118 : IVec S16 32) (k0_hw6 : k0_chk6 v118), ∀ a x, ((![v118] : Fin 1 → IVec S16 32) a x).toNat < S16.size a := fun v118 k0_hw6 => k0_hw6.2.2.2.2.2.2.2.2.2.2.1
theorem k0_idx92_inb : ∀ (v118 : IVec S16 32) (k0_hw6 : k0_chk6 v118), ∀ a x, ((![v118] : Fin 1 → IVec S16 32) a x).toNat < S16.size a := fun v118 k0_hw6 => k0_hw6.2.2.2.2.2.2.2.2.2.2.2.1
theorem k0_idx93_inb : ∀ (v118 : IVec S16 32) (k0_hw6 : k0_chk6 v118), ∀ a x, ((![v118] : Fin 1 → IVec S16 32) a x).toNat < S16.size a := fun v118 k0_hw6 => k0_hw6.2.2.2.2.2.2.2.2.2.2.2.2.1
theorem k0_idx94_inb : ∀ (v118 : IVec S16 32) (k0_hw6 : k0_chk6 v118), ∀ a x, ((![v118] : Fin 1 → IVec S16 32) a x).toNat < S16.size a := fun v118 k0_hw6 => k0_hw6.2.2.2.2.2.2.2.2.2.2.2.2.2.1
theorem k0_idx95_inb : ∀ (v118 : IVec S16 32) (k0_hw6 : k0_chk6 v118), ∀ a x, ((![v118] : Fin 1 → IVec S16 32) a x).toNat < S16.size a := fun v118 k0_hw6 => k0_hw6.2.2.2.2.2.2.2.2.2.2.2.2.2.2.1
theorem k0_idx96_inb : ∀ (v118 : IVec S16 32) (k0_hw6 : k0_chk6 v118), ∀ a x, ((![v118] : Fin 1 → IVec S16 32) a x).toNat < S16.size a := fun v118 k0_hw6 => k0_hw6.2.2.2.2.2.2.2.2.2.2.2.2.2.2.2
def k0_off58 (k0_t7 : Fin k0_t7_loop.trips) : Fin 4 → Nat :=
  let c1_i32_250 : BitVec 32 := 1#32
  let v212 : Index := Scalar.indexCast c1_i32_250
  let c7_i32_251 : BitVec 32 := 7#32
  let v213 : Index := Scalar.indexCast c7_i32_251
  let c1_i32_252 : BitVec 32 := 1#32
  let v214 : Index := Scalar.indexCast c1_i32_252
  let c0_i32_167 : BitVec 32 := 0#32
  let c1_i32_169 : BitVec 32 := 1#32
  let arg13 : BitVec 32 := Scf.iv c0_i32_167 c1_i32_169 k0_t7
  let c16_i32_208 : BitVec 32 := 16#32
  let v112 : BitVec 32 := Scalar.muli arg13 c16_i32_208
  let v215 : Index := Scalar.indexCast v112
  ![1, 7, 1, v215.toNat]
@[reducible] def k0_t8_loop : Scf.Loop 32 :=
  let c0_i32_184 : BitVec 32 := 0#32
  let c64_i32_185 : BitVec 32 := 64#32
  let v98 : BitVec 32 := Scalar.addi c0_i32_184 c64_i32_185
  let c1_i32_186 : BitVec 32 := 1#32
  ⟨c0_i32_184, v98, c1_i32_186⟩
def k0_off59 (k0_t8 : Fin k0_t8_loop.trips) : Fin 3 → Nat :=
  let c1_i32_209 : BitVec 32 := 1#32
  let v113 : Index := Scalar.indexCast c1_i32_209
  let c0_i32_210 : BitVec 32 := 0#32
  let v114 : Index := Scalar.indexCast c0_i32_210
  let c0_i32_184 : BitVec 32 := 0#32
  let c1_i32_186 : BitVec 32 := 1#32
  let arg13 : BitVec 32 := Scf.iv c0_i32_184 c1_i32_186 k0_t8
  let c16_i32_208 : BitVec 32 := 16#32
  let v112 : BitVec 32 := Scalar.muli arg13 c16_i32_208
  let v115 : Index := Scalar.indexCast v112
  ![1, 0, v115.toNat]
def k0_off60 (k0_t8 : Fin k0_t8_loop.trips) : Fin 4 → Nat :=
  let c1_i32_215 : BitVec 32 := 1#32
  let v128 : Index := Scalar.indexCast c1_i32_215
  let c8_i32_216 : BitVec 32 := 8#32
  let v129 : Index := Scalar.indexCast c8_i32_216
  let c0_i32_217 : BitVec 32 := 0#32
  let v130 : Index := Scalar.indexCast c0_i32_217
  let c0_i32_184 : BitVec 32 := 0#32
  let c1_i32_186 : BitVec 32 := 1#32
  let arg13 : BitVec 32 := Scf.iv c0_i32_184 c1_i32_186 k0_t8
  let c16_i32_208 : BitVec 32 := 16#32
  let v112 : BitVec 32 := Scalar.muli arg13 c16_i32_208
  let v131 : Index := Scalar.indexCast v112
  ![1, 8, 0, v131.toNat]
def k0_off61 (k0_t8 : Fin k0_t8_loop.trips) : Fin 4 → Nat :=
  let c1_i32_220 : BitVec 32 := 1#32
  let v140 : Index := Scalar.indexCast c1_i32_220
  let c9_i32_221 : BitVec 32 := 9#32
  let v141 : Index := Scalar.indexCast c9_i32_221
  let c0_i32_222 : BitVec 32 := 0#32
  let v142 : Index := Scalar.indexCast c0_i32_222
  let c0_i32_184 : BitVec 32 := 0#32
  let c1_i32_186 : BitVec 32 := 1#32
  let arg13 : BitVec 32 := Scf.iv c0_i32_184 c1_i32_186 k0_t8
  let c16_i32_208 : BitVec 32 := 16#32
  let v112 : BitVec 32 := Scalar.muli arg13 c16_i32_208
  let v143 : Index := Scalar.indexCast v112
  ![1, 9, 0, v143.toNat]
def k0_off62 (k0_t8 : Fin k0_t8_loop.trips) : Fin 4 → Nat :=
  let c1_i32_225 : BitVec 32 := 1#32
  let v152 : Index := Scalar.indexCast c1_i32_225
  let c10_i32_226 : BitVec 32 := 10#32
  let v153 : Index := Scalar.indexCast c10_i32_226
  let c0_i32_227 : BitVec 32 := 0#32
  let v154 : Index := Scalar.indexCast c0_i32_227
  let c0_i32_184 : BitVec 32 := 0#32
  let c1_i32_186 : BitVec 32 := 1#32
  let arg13 : BitVec 32 := Scf.iv c0_i32_184 c1_i32_186 k0_t8
  let c16_i32_208 : BitVec 32 := 16#32
  let v112 : BitVec 32 := Scalar.muli arg13 c16_i32_208
  let v155 : Index := Scalar.indexCast v112
  ![1, 10, 0, v155.toNat]
def k0_off63 (k0_t8 : Fin k0_t8_loop.trips) : Fin 4 → Nat :=
  let c1_i32_230 : BitVec 32 := 1#32
  let v164 : Index := Scalar.indexCast c1_i32_230
  let c11_i32_231 : BitVec 32 := 11#32
  let v165 : Index := Scalar.indexCast c11_i32_231
  let c0_i32_232 : BitVec 32 := 0#32
  let v166 : Index := Scalar.indexCast c0_i32_232
  let c0_i32_184 : BitVec 32 := 0#32
  let c1_i32_186 : BitVec 32 := 1#32
  let arg13 : BitVec 32 := Scf.iv c0_i32_184 c1_i32_186 k0_t8
  let c16_i32_208 : BitVec 32 := 16#32
  let v112 : BitVec 32 := Scalar.muli arg13 c16_i32_208
  let v167 : Index := Scalar.indexCast v112
  ![1, 11, 0, v167.toNat]
def k0_off64 (k0_t8 : Fin k0_t8_loop.trips) : Fin 4 → Nat :=
  let c1_i32_235 : BitVec 32 := 1#32
  let v176 : Index := Scalar.indexCast c1_i32_235
  let c12_i32_236 : BitVec 32 := 12#32
  let v177 : Index := Scalar.indexCast c12_i32_236
  let c0_i32_237 : BitVec 32 := 0#32
  let v178 : Index := Scalar.indexCast c0_i32_237
  let c0_i32_184 : BitVec 32 := 0#32
  let c1_i32_186 : BitVec 32 := 1#32
  let arg13 : BitVec 32 := Scf.iv c0_i32_184 c1_i32_186 k0_t8
  let c16_i32_208 : BitVec 32 := 16#32
  let v112 : BitVec 32 := Scalar.muli arg13 c16_i32_208
  let v179 : Index := Scalar.indexCast v112
  ![1, 12, 0, v179.toNat]
def k0_off65 (k0_t8 : Fin k0_t8_loop.trips) : Fin 4 → Nat :=
  let c1_i32_240 : BitVec 32 := 1#32
  let v188 : Index := Scalar.indexCast c1_i32_240
  let c13_i32_241 : BitVec 32 := 13#32
  let v189 : Index := Scalar.indexCast c13_i32_241
  let c0_i32_242 : BitVec 32 := 0#32
  let v190 : Index := Scalar.indexCast c0_i32_242
  let c0_i32_184 : BitVec 32 := 0#32
  let c1_i32_186 : BitVec 32 := 1#32
  let arg13 : BitVec 32 := Scf.iv c0_i32_184 c1_i32_186 k0_t8
  let c16_i32_208 : BitVec 32 := 16#32
  let v112 : BitVec 32 := Scalar.muli arg13 c16_i32_208
  let v191 : Index := Scalar.indexCast v112
  ![1, 13, 0, v191.toNat]
def k0_off66 (k0_t8 : Fin k0_t8_loop.trips) : Fin 4 → Nat :=
  let c1_i32_245 : BitVec 32 := 1#32
  let v200 : Index := Scalar.indexCast c1_i32_245
  let c14_i32_246 : BitVec 32 := 14#32
  let v201 : Index := Scalar.indexCast c14_i32_246
  let c0_i32_247 : BitVec 32 := 0#32
  let v202 : Index := Scalar.indexCast c0_i32_247
  let c0_i32_184 : BitVec 32 := 0#32
  let c1_i32_186 : BitVec 32 := 1#32
  let arg13 : BitVec 32 := Scf.iv c0_i32_184 c1_i32_186 k0_t8
  let c16_i32_208 : BitVec 32 := 16#32
  let v112 : BitVec 32 := Scalar.muli arg13 c16_i32_208
  let v203 : Index := Scalar.indexCast v112
  ![1, 14, 0, v203.toNat]

def k0_chk7 (v118 : IVec S16 32) : Prop :=
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a)
theorem k0_idx97_inb : ∀ (v118 : IVec S16 32) (k0_hw7 : k0_chk7 v118), ∀ a x, ((![v118] : Fin 1 → IVec S16 32) a x).toNat < S16.size a := fun v118 k0_hw7 => k0_hw7.1
theorem k0_idx98_inb : ∀ (v118 : IVec S16 32) (k0_hw7 : k0_chk7 v118), ∀ a x, ((![v118] : Fin 1 → IVec S16 32) a x).toNat < S16.size a := fun v118 k0_hw7 => k0_hw7.2.1
theorem k0_idx99_inb : ∀ (v118 : IVec S16 32) (k0_hw7 : k0_chk7 v118), ∀ a x, ((![v118] : Fin 1 → IVec S16 32) a x).toNat < S16.size a := fun v118 k0_hw7 => k0_hw7.2.2.1
theorem k0_idx100_inb : ∀ (v118 : IVec S16 32) (k0_hw7 : k0_chk7 v118), ∀ a x, ((![v118] : Fin 1 → IVec S16 32) a x).toNat < S16.size a := fun v118 k0_hw7 => k0_hw7.2.2.2.1
theorem k0_idx101_inb : ∀ (v118 : IVec S16 32) (k0_hw7 : k0_chk7 v118), ∀ a x, ((![v118] : Fin 1 → IVec S16 32) a x).toNat < S16.size a := fun v118 k0_hw7 => k0_hw7.2.2.2.2.1
theorem k0_idx102_inb : ∀ (v118 : IVec S16 32) (k0_hw7 : k0_chk7 v118), ∀ a x, ((![v118] : Fin 1 → IVec S16 32) a x).toNat < S16.size a := fun v118 k0_hw7 => k0_hw7.2.2.2.2.2.1
theorem k0_idx103_inb : ∀ (v118 : IVec S16 32) (k0_hw7 : k0_chk7 v118), ∀ a x, ((![v118] : Fin 1 → IVec S16 32) a x).toNat < S16.size a := fun v118 k0_hw7 => k0_hw7.2.2.2.2.2.2.1
theorem k0_idx104_inb : ∀ (v118 : IVec S16 32) (k0_hw7 : k0_chk7 v118), ∀ a x, ((![v118] : Fin 1 → IVec S16 32) a x).toNat < S16.size a := fun v118 k0_hw7 => k0_hw7.2.2.2.2.2.2.2.1
theorem k0_idx105_inb : ∀ (v118 : IVec S16 32) (k0_hw7 : k0_chk7 v118), ∀ a x, ((![v118] : Fin 1 → IVec S16 32) a x).toNat < S16.size a := fun v118 k0_hw7 => k0_hw7.2.2.2.2.2.2.2.2.1
theorem k0_idx106_inb : ∀ (v118 : IVec S16 32) (k0_hw7 : k0_chk7 v118), ∀ a x, ((![v118] : Fin 1 → IVec S16 32) a x).toNat < S16.size a := fun v118 k0_hw7 => k0_hw7.2.2.2.2.2.2.2.2.2.1
theorem k0_idx107_inb : ∀ (v118 : IVec S16 32) (k0_hw7 : k0_chk7 v118), ∀ a x, ((![v118] : Fin 1 → IVec S16 32) a x).toNat < S16.size a := fun v118 k0_hw7 => k0_hw7.2.2.2.2.2.2.2.2.2.2.1
theorem k0_idx108_inb : ∀ (v118 : IVec S16 32) (k0_hw7 : k0_chk7 v118), ∀ a x, ((![v118] : Fin 1 → IVec S16 32) a x).toNat < S16.size a := fun v118 k0_hw7 => k0_hw7.2.2.2.2.2.2.2.2.2.2.2.1
theorem k0_idx109_inb : ∀ (v118 : IVec S16 32) (k0_hw7 : k0_chk7 v118), ∀ a x, ((![v118] : Fin 1 → IVec S16 32) a x).toNat < S16.size a := fun v118 k0_hw7 => k0_hw7.2.2.2.2.2.2.2.2.2.2.2.2.1
theorem k0_idx110_inb : ∀ (v118 : IVec S16 32) (k0_hw7 : k0_chk7 v118), ∀ a x, ((![v118] : Fin 1 → IVec S16 32) a x).toNat < S16.size a := fun v118 k0_hw7 => k0_hw7.2.2.2.2.2.2.2.2.2.2.2.2.2.1
theorem k0_idx111_inb : ∀ (v118 : IVec S16 32) (k0_hw7 : k0_chk7 v118), ∀ a x, ((![v118] : Fin 1 → IVec S16 32) a x).toNat < S16.size a := fun v118 k0_hw7 => k0_hw7.2.2.2.2.2.2.2.2.2.2.2.2.2.2.1
theorem k0_idx112_inb : ∀ (v118 : IVec S16 32) (k0_hw7 : k0_chk7 v118), ∀ a x, ((![v118] : Fin 1 → IVec S16 32) a x).toNat < S16.size a := fun v118 k0_hw7 => k0_hw7.2.2.2.2.2.2.2.2.2.2.2.2.2.2.2
def k0_off67 (k0_t8 : Fin k0_t8_loop.trips) : Fin 4 → Nat :=
  let c1_i32_250 : BitVec 32 := 1#32
  let v212 : Index := Scalar.indexCast c1_i32_250
  let c15_i32_251 : BitVec 32 := 15#32
  let v213 : Index := Scalar.indexCast c15_i32_251
  let c0_i32_252 : BitVec 32 := 0#32
  let v214 : Index := Scalar.indexCast c0_i32_252
  let c0_i32_184 : BitVec 32 := 0#32
  let c1_i32_186 : BitVec 32 := 1#32
  let arg13 : BitVec 32 := Scf.iv c0_i32_184 c1_i32_186 k0_t8
  let c16_i32_208 : BitVec 32 := 16#32
  let v112 : BitVec 32 := Scalar.muli arg13 c16_i32_208
  let v215 : Index := Scalar.indexCast v112
  ![1, 15, 0, v215.toNat]
@[reducible] def k0_t9_loop : Scf.Loop 32 :=
  let c0_i32_189 : BitVec 32 := 0#32
  let c64_i32_190 : BitVec 32 := 64#32
  let v99 : BitVec 32 := Scalar.addi c0_i32_189 c64_i32_190
  let c1_i32_191 : BitVec 32 := 1#32
  ⟨c0_i32_189, v99, c1_i32_191⟩
def k0_off68 (k0_t9 : Fin k0_t9_loop.trips) : Fin 3 → Nat :=
  let c1_i32_209 : BitVec 32 := 1#32
  let v113 : Index := Scalar.indexCast c1_i32_209
  let c1_i32_210 : BitVec 32 := 1#32
  let v114 : Index := Scalar.indexCast c1_i32_210
  let c0_i32_189 : BitVec 32 := 0#32
  let c1_i32_191 : BitVec 32 := 1#32
  let arg13 : BitVec 32 := Scf.iv c0_i32_189 c1_i32_191 k0_t9
  let c16_i32_208 : BitVec 32 := 16#32
  let v112 : BitVec 32 := Scalar.muli arg13 c16_i32_208
  let v115 : Index := Scalar.indexCast v112
  ![1, 1, v115.toNat]
def k0_off69 (k0_t9 : Fin k0_t9_loop.trips) : Fin 4 → Nat :=
  let c1_i32_215 : BitVec 32 := 1#32
  let v128 : Index := Scalar.indexCast c1_i32_215
  let c8_i32_216 : BitVec 32 := 8#32
  let v129 : Index := Scalar.indexCast c8_i32_216
  let c1_i32_217 : BitVec 32 := 1#32
  let v130 : Index := Scalar.indexCast c1_i32_217
  let c0_i32_189 : BitVec 32 := 0#32
  let c1_i32_191 : BitVec 32 := 1#32
  let arg13 : BitVec 32 := Scf.iv c0_i32_189 c1_i32_191 k0_t9
  let c16_i32_208 : BitVec 32 := 16#32
  let v112 : BitVec 32 := Scalar.muli arg13 c16_i32_208
  let v131 : Index := Scalar.indexCast v112
  ![1, 8, 1, v131.toNat]
def k0_off70 (k0_t9 : Fin k0_t9_loop.trips) : Fin 4 → Nat :=
  let c1_i32_220 : BitVec 32 := 1#32
  let v140 : Index := Scalar.indexCast c1_i32_220
  let c9_i32_221 : BitVec 32 := 9#32
  let v141 : Index := Scalar.indexCast c9_i32_221
  let c1_i32_222 : BitVec 32 := 1#32
  let v142 : Index := Scalar.indexCast c1_i32_222
  let c0_i32_189 : BitVec 32 := 0#32
  let c1_i32_191 : BitVec 32 := 1#32
  let arg13 : BitVec 32 := Scf.iv c0_i32_189 c1_i32_191 k0_t9
  let c16_i32_208 : BitVec 32 := 16#32
  let v112 : BitVec 32 := Scalar.muli arg13 c16_i32_208
  let v143 : Index := Scalar.indexCast v112
  ![1, 9, 1, v143.toNat]
def k0_off71 (k0_t9 : Fin k0_t9_loop.trips) : Fin 4 → Nat :=
  let c1_i32_225 : BitVec 32 := 1#32
  let v152 : Index := Scalar.indexCast c1_i32_225
  let c10_i32_226 : BitVec 32 := 10#32
  let v153 : Index := Scalar.indexCast c10_i32_226
  let c1_i32_227 : BitVec 32 := 1#32
  let v154 : Index := Scalar.indexCast c1_i32_227
  let c0_i32_189 : BitVec 32 := 0#32
  let c1_i32_191 : BitVec 32 := 1#32
  let arg13 : BitVec 32 := Scf.iv c0_i32_189 c1_i32_191 k0_t9
  let c16_i32_208 : BitVec 32 := 16#32
  let v112 : BitVec 32 := Scalar.muli arg13 c16_i32_208
  let v155 : Index := Scalar.indexCast v112
  ![1, 10, 1, v155.toNat]
def k0_off72 (k0_t9 : Fin k0_t9_loop.trips) : Fin 4 → Nat :=
  let c1_i32_230 : BitVec 32 := 1#32
  let v164 : Index := Scalar.indexCast c1_i32_230
  let c11_i32_231 : BitVec 32 := 11#32
  let v165 : Index := Scalar.indexCast c11_i32_231
  let c1_i32_232 : BitVec 32 := 1#32
  let v166 : Index := Scalar.indexCast c1_i32_232
  let c0_i32_189 : BitVec 32 := 0#32
  let c1_i32_191 : BitVec 32 := 1#32
  let arg13 : BitVec 32 := Scf.iv c0_i32_189 c1_i32_191 k0_t9
  let c16_i32_208 : BitVec 32 := 16#32
  let v112 : BitVec 32 := Scalar.muli arg13 c16_i32_208
  let v167 : Index := Scalar.indexCast v112
  ![1, 11, 1, v167.toNat]
def k0_off73 (k0_t9 : Fin k0_t9_loop.trips) : Fin 4 → Nat :=
  let c1_i32_235 : BitVec 32 := 1#32
  let v176 : Index := Scalar.indexCast c1_i32_235
  let c12_i32_236 : BitVec 32 := 12#32
  let v177 : Index := Scalar.indexCast c12_i32_236
  let c1_i32_237 : BitVec 32 := 1#32
  let v178 : Index := Scalar.indexCast c1_i32_237
  let c0_i32_189 : BitVec 32 := 0#32
  let c1_i32_191 : BitVec 32 := 1#32
  let arg13 : BitVec 32 := Scf.iv c0_i32_189 c1_i32_191 k0_t9
  let c16_i32_208 : BitVec 32 := 16#32
  let v112 : BitVec 32 := Scalar.muli arg13 c16_i32_208
  let v179 : Index := Scalar.indexCast v112
  ![1, 12, 1, v179.toNat]
def k0_off74 (k0_t9 : Fin k0_t9_loop.trips) : Fin 4 → Nat :=
  let c1_i32_240 : BitVec 32 := 1#32
  let v188 : Index := Scalar.indexCast c1_i32_240
  let c13_i32_241 : BitVec 32 := 13#32
  let v189 : Index := Scalar.indexCast c13_i32_241
  let c1_i32_242 : BitVec 32 := 1#32
  let v190 : Index := Scalar.indexCast c1_i32_242
  let c0_i32_189 : BitVec 32 := 0#32
  let c1_i32_191 : BitVec 32 := 1#32
  let arg13 : BitVec 32 := Scf.iv c0_i32_189 c1_i32_191 k0_t9
  let c16_i32_208 : BitVec 32 := 16#32
  let v112 : BitVec 32 := Scalar.muli arg13 c16_i32_208
  let v191 : Index := Scalar.indexCast v112
  ![1, 13, 1, v191.toNat]
def k0_off75 (k0_t9 : Fin k0_t9_loop.trips) : Fin 4 → Nat :=
  let c1_i32_245 : BitVec 32 := 1#32
  let v200 : Index := Scalar.indexCast c1_i32_245
  let c14_i32_246 : BitVec 32 := 14#32
  let v201 : Index := Scalar.indexCast c14_i32_246
  let c1_i32_247 : BitVec 32 := 1#32
  let v202 : Index := Scalar.indexCast c1_i32_247
  let c0_i32_189 : BitVec 32 := 0#32
  let c1_i32_191 : BitVec 32 := 1#32
  let arg13 : BitVec 32 := Scf.iv c0_i32_189 c1_i32_191 k0_t9
  let c16_i32_208 : BitVec 32 := 16#32
  let v112 : BitVec 32 := Scalar.muli arg13 c16_i32_208
  let v203 : Index := Scalar.indexCast v112
  ![1, 14, 1, v203.toNat]

def k0_chk8 (v118 : IVec S16 32) : Prop :=
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a) ∧
  (∀ a x, ((![v118] : Fin 1 → IVec S16 32) a x).toNat < S16.size a)
theorem k0_idx113_inb : ∀ (v118 : IVec S16 32) (k0_hw8 : k0_chk8 v118), ∀ a x, ((![v118] : Fin 1 → IVec S16 32) a x).toNat < S16.size a := fun v118 k0_hw8 => k0_hw8.1
theorem k0_idx114_inb : ∀ (v118 : IVec S16 32) (k0_hw8 : k0_chk8 v118), ∀ a x, ((![v118] : Fin 1 → IVec S16 32) a x).toNat < S16.size a := fun v118 k0_hw8 => k0_hw8.2.1
theorem k0_idx115_inb : ∀ (v118 : IVec S16 32) (k0_hw8 : k0_chk8 v118), ∀ a x, ((![v118] : Fin 1 → IVec S16 32) a x).toNat < S16.size a := fun v118 k0_hw8 => k0_hw8.2.2.1
theorem k0_idx116_inb : ∀ (v118 : IVec S16 32) (k0_hw8 : k0_chk8 v118), ∀ a x, ((![v118] : Fin 1 → IVec S16 32) a x).toNat < S16.size a := fun v118 k0_hw8 => k0_hw8.2.2.2.1
theorem k0_idx117_inb : ∀ (v118 : IVec S16 32) (k0_hw8 : k0_chk8 v118), ∀ a x, ((![v118] : Fin 1 → IVec S16 32) a x).toNat < S16.size a := fun v118 k0_hw8 => k0_hw8.2.2.2.2.1
theorem k0_idx118_inb : ∀ (v118 : IVec S16 32) (k0_hw8 : k0_chk8 v118), ∀ a x, ((![v118] : Fin 1 → IVec S16 32) a x).toNat < S16.size a := fun v118 k0_hw8 => k0_hw8.2.2.2.2.2.1
theorem k0_idx119_inb : ∀ (v118 : IVec S16 32) (k0_hw8 : k0_chk8 v118), ∀ a x, ((![v118] : Fin 1 → IVec S16 32) a x).toNat < S16.size a := fun v118 k0_hw8 => k0_hw8.2.2.2.2.2.2.1
theorem k0_idx120_inb : ∀ (v118 : IVec S16 32) (k0_hw8 : k0_chk8 v118), ∀ a x, ((![v118] : Fin 1 → IVec S16 32) a x).toNat < S16.size a := fun v118 k0_hw8 => k0_hw8.2.2.2.2.2.2.2.1
theorem k0_idx121_inb : ∀ (v118 : IVec S16 32) (k0_hw8 : k0_chk8 v118), ∀ a x, ((![v118] : Fin 1 → IVec S16 32) a x).toNat < S16.size a := fun v118 k0_hw8 => k0_hw8.2.2.2.2.2.2.2.2.1
theorem k0_idx122_inb : ∀ (v118 : IVec S16 32) (k0_hw8 : k0_chk8 v118), ∀ a x, ((![v118] : Fin 1 → IVec S16 32) a x).toNat < S16.size a := fun v118 k0_hw8 => k0_hw8.2.2.2.2.2.2.2.2.2.1
theorem k0_idx123_inb : ∀ (v118 : IVec S16 32) (k0_hw8 : k0_chk8 v118), ∀ a x, ((![v118] : Fin 1 → IVec S16 32) a x).toNat < S16.size a := fun v118 k0_hw8 => k0_hw8.2.2.2.2.2.2.2.2.2.2.1
theorem k0_idx124_inb : ∀ (v118 : IVec S16 32) (k0_hw8 : k0_chk8 v118), ∀ a x, ((![v118] : Fin 1 → IVec S16 32) a x).toNat < S16.size a := fun v118 k0_hw8 => k0_hw8.2.2.2.2.2.2.2.2.2.2.2.1
theorem k0_idx125_inb : ∀ (v118 : IVec S16 32) (k0_hw8 : k0_chk8 v118), ∀ a x, ((![v118] : Fin 1 → IVec S16 32) a x).toNat < S16.size a := fun v118 k0_hw8 => k0_hw8.2.2.2.2.2.2.2.2.2.2.2.2.1
theorem k0_idx126_inb : ∀ (v118 : IVec S16 32) (k0_hw8 : k0_chk8 v118), ∀ a x, ((![v118] : Fin 1 → IVec S16 32) a x).toNat < S16.size a := fun v118 k0_hw8 => k0_hw8.2.2.2.2.2.2.2.2.2.2.2.2.2.1
theorem k0_idx127_inb : ∀ (v118 : IVec S16 32) (k0_hw8 : k0_chk8 v118), ∀ a x, ((![v118] : Fin 1 → IVec S16 32) a x).toNat < S16.size a := fun v118 k0_hw8 => k0_hw8.2.2.2.2.2.2.2.2.2.2.2.2.2.2.1
theorem k0_idx128_inb : ∀ (v118 : IVec S16 32) (k0_hw8 : k0_chk8 v118), ∀ a x, ((![v118] : Fin 1 → IVec S16 32) a x).toNat < S16.size a := fun v118 k0_hw8 => k0_hw8.2.2.2.2.2.2.2.2.2.2.2.2.2.2.2
def k0_off76 (k0_t9 : Fin k0_t9_loop.trips) : Fin 4 → Nat :=
  let c1_i32_250 : BitVec 32 := 1#32
  let v212 : Index := Scalar.indexCast c1_i32_250
  let c15_i32_251 : BitVec 32 := 15#32
  let v213 : Index := Scalar.indexCast c15_i32_251
  let c1_i32_252 : BitVec 32 := 1#32
  let v214 : Index := Scalar.indexCast c1_i32_252
  let c0_i32_189 : BitVec 32 := 0#32
  let c1_i32_191 : BitVec 32 := 1#32
  let arg13 : BitVec 32 := Scf.iv c0_i32_189 c1_i32_191 k0_t9
  let c16_i32_208 : BitVec 32 := 16#32
  let v112 : BitVec 32 := Scalar.muli arg13 c16_i32_208
  let v215 : Index := Scalar.indexCast v112
  ![1, 15, 1, v215.toNat]
def k0_cond4 (k0_t1 : Fin k0_t1_loop.trips) : BitVec 1 :=
  let c2_i32_148 : BitVec 32 := 2#32
  let c0_i32_34 : BitVec 32 := 0#32
  let c1_i32_36 : BitVec 32 := 1#32
  let arg12 : BitVec 32 := Scf.iv c0_i32_34 c1_i32_36 k0_t1
  let v77 : BitVec 32 := Scalar.muli c2_i32_148 arg12
  let c1_i32_149 : BitVec 32 := 1#32
  let v78 : BitVec 32 := Scalar.addi v77 c1_i32_149
  let c2_i32_205 : BitVec 32 := 2#32
  let v108 : BitVec 32 := Scalar.addi v78 c2_i32_205
  let c16_i32_206 : BitVec 32 := 16#32
  let v109 : BitVec 1 := Scalar.cmpi .slt v108 c16_i32_206
  let v110 : BitVec 32 := Scalar.extui v109
  let c0_i32_207 : BitVec 32 := 0#32
  let v111 : BitVec 1 := Scalar.cmpi .ne v110 c0_i32_207
  v111

def k0_off77 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_148 : BitVec 32 := 2#32
  let c0_i32_34 : BitVec 32 := 0#32
  let c1_i32_36 : BitVec 32 := 1#32
  let arg12 : BitVec 32 := Scf.iv c0_i32_34 c1_i32_36 k0_t1
  let v77 : BitVec 32 := Scalar.muli c2_i32_148 arg12
  let c1_i32_149 : BitVec 32 := 1#32
  let v78 : BitVec 32 := Scalar.addi v77 c1_i32_149
  let c2_i32_208 : BitVec 32 := 2#32
  let v112 : BitVec 32 := Scalar.addi v78 c2_i32_208
  let c2_i32_209 : BitVec 32 := 2#32
  let v113 : BitVec 32 := Scalar.muli v112 c2_i32_209
  let v114 : BitVec 32 := Scalar.addi v2 v113
  let c0_i32_213 : BitVec 32 := 0#32
  ![v114.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x1024 : Shape := ⟨2, ![1024, 1024]⟩
abbrev S32x16 : Shape := ⟨2, ![32, 16]⟩
abbrev S_ : Shape := ⟨0, ![]⟩
abbrev S1024x1024x1 : Shape := ⟨3, ![1024, 1024, 1]⟩
abbrev S1 : Shape := ⟨1, ![1]⟩
abbrev S1x1x1 : Shape := ⟨3, ![1, 1, 1]⟩
abbrev S1024x1024x16 : Shape := ⟨3, ![1024, 1024, 16]⟩
abbrev S16x1024x1024 : Shape := ⟨3, ![16, 1024, 1024]⟩

abbrev nBuf : Space → Nat
  | .hbm => 26
  | .vmem => 0
  | .smem => 0
  | _ => 0

abbrev bufTy : (tb : Table) → Fin (tcTables nBuf tb) → BufTy
  | .hbm, ⟨0, _⟩ => ⟨S1024x1024, .i32⟩
  | .hbm, ⟨1, _⟩ => ⟨S32x16, .f32⟩
  | .hbm, ⟨2, _⟩ => ⟨S_, .i32⟩
  | .hbm, ⟨3, _⟩ => ⟨S1024x1024, .i32⟩
  | .hbm, ⟨4, _⟩ => ⟨S1024x1024, .i1⟩
  | .hbm, ⟨5, _⟩ => ⟨S_, .i32⟩
  | .hbm, ⟨6, _⟩ => ⟨S1024x1024, .i32⟩
  | .hbm, ⟨7, _⟩ => ⟨S1024x1024, .i32⟩
  | .hbm, ⟨8, _⟩ => ⟨S1024x1024, .i32⟩
  | .hbm, ⟨9, _⟩ => ⟨S1024x1024x1, .i32⟩
  | .hbm, ⟨10, _⟩ => ⟨S1, .i32⟩
  | .hbm, ⟨11, _⟩ => ⟨S_, .i32⟩
  | .hbm, ⟨12, _⟩ => ⟨S1024x1024x1, .i32⟩
  | .hbm, ⟨13, _⟩ => ⟨S1024x1024x1, .i1⟩
  | .hbm, ⟨14, _⟩ => ⟨S1x1x1, .i32⟩
  | .hbm, ⟨15, _⟩ => ⟨S1024x1024x1, .i32⟩
  | .hbm, ⟨16, _⟩ => ⟨S1024x1024x1, .i1⟩
  | .hbm, ⟨17, _⟩ => ⟨S1024x1024x1, .i1⟩
  | .hbm, ⟨18, _⟩ => ⟨S_, .i1⟩
  | .hbm, ⟨19, _⟩ => ⟨S1024x1024, .i1⟩
  | .hbm, ⟨20, _⟩ => ⟨S1024x1024x16, .f32⟩
  | .hbm, ⟨21, _⟩ => ⟨S1024x1024x16, .i1⟩
  | .hbm, ⟨22, _⟩ => ⟨S_, .f32⟩
  | .hbm, ⟨23, _⟩ => ⟨S1024x1024x16, .f32⟩
  | .hbm, ⟨24, _⟩ => ⟨S1024x1024x16, .f32⟩
  | .hbm, ⟨25, _⟩ => ⟨S16x1024x1024, .f32⟩
  | _, _ => ⟨S1024x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Fill.lean ====
/-
  What the staged half holds once the lookups are done, and how far a half has been filled: plain facts about
  index arithmetic, with no run in them.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ValueLayout
public import Idealize.ShloMosaic.Lib.ViewIndex
public import proofs.«01_k».proof.Proof.Gen.KernelIdeal
public import proofs.«01_k».proof.Proof.Gen.KernelIdeal.Skeleton

@[expose] public section

noncomputable section

namespace Cert.Proof.Bias

open Cert.KernelIdeal Cert.KernelIdeal.Gen

open Idealize.ShloMosaic Idealize.ShloMosaic.ValueIdx

variable {F : FTy → Type}

local notation "tV" => (Memref.whole Cert.KernelIdeal.cc0_scratch0 : Memref Cert.KernelIdeal.sig Kind.scVector Space.vmem Cert.KernelIdeal.S16x32 EltTy.f32)
local notation "dV" => (Memref.whole Cert.KernelIdeal.cc0_scratch1 : Memref Cert.KernelIdeal.sig Kind.scVector Space.vmem Cert.KernelIdeal.S2x2x1024 EltTy.i32)
local notation "oV" => (Memref.whole Cert.KernelIdeal.cc0_scratch2 : Memref Cert.KernelIdeal.sig Kind.scVector Space.vmem Cert.KernelIdeal.S2x16x2x1024 EltTy.f32)

/-! ## The looked-up value -/

theorem and15_lt (w : BitVec 32) : (w &&& 15#32).toNat < 16 := by
  rw [BitVec.toNat_and]; exact Nat.lt_of_le_of_lt Nat.and_le_right (by decide)

/-- Head `h` of the table (kept heads first) at the word `w`: the lower sixteen columns when `w` is below sixteen as a
    signed word, the upper sixteen otherwise, at the word's low four bits. -/
def pick (T : S16x32.Idx → Elt F .f32) (h : Fin 16) (w : BitVec 32) : Elt F .f32 :=
  Scalar.select (IntOp.cmpi .slt w 16#32)
    (T (ix2 h ⟨(w &&& 15#32).toNat, Nat.lt_of_lt_of_le (and15_lt w) (by decide)⟩))
    (T (ix2 h ⟨16 + (w &&& 15#32).toNat, Nat.add_lt_add_left (and15_lt w) 16⟩))

/-- What the output buffer holds when its two slots are filled from the distances `Dv` of the input buffer. -/
def G (T : S16x32.Idx → Elt F .f32) (Dv : S2x2x1024.Idx → BitVec 32) : S2x16x2x1024.Idx → Elt F .f32 :=
  fun x => pick T (x 1) (Dv (ix3 (x 0) (x 2) (x 3)))

/-! ## The pieces of the two buffers -/

theorem oHalf_inb (b hp : Fin 2) : ∀ a, (![b.val, 8 * hp.val, 0, 0] : Fin 4 → Nat) a + S1x8x2x1024.size a ≤ S2x16x2x1024.size a := by
  have := b.isLt; have := hp.isLt
  intro a; fin_cases a
  · show b.val + 1 ≤ 2; omega
  · show 8 * hp.val + 8 ≤ 16; omega
  · show 0 + 2 ≤ 2; omega
  · show 0 + 1024 ≤ 1024; omega
theorem dHalf_inb (b : Fin 2) : ∀ a, (![b.val, 0, 0] : Fin 3 → Nat) a + S1x2x1024.size a ≤ S2x2x1024.size a := by
  have := b.isLt
  intro a; fin_cases a
  · show b.val + 1 ≤ 2; omega
  · show 0 + 2 ≤ 2; omega
  · show 0 + 1024 ≤ 1024; omega

/-- Heads `8 hp ‥ 8 hp + 7` of slot `b` of the output buffer; slot `b` of the input buffer. -/
abbrev oHalf (b hp : Fin 2) : Memref sig .scVector .vmem S8x2x1024 .f32 :=
  ((oV).slice (Rect.unit (s := S2x16x2x1024) ![b.val, 8 * hp.val, 0, 0] S1x8x2x1024.size (oHalf_inb b hp)) (fun _ => rfl)).squeeze
    S8x2x1024 squeezes_S1x8x2x1024_S8x2x1024
abbrev dHalf (b : Fin 2) : Memref sig .scVector .vmem S2x1024 .i32 :=
  ((dV).slice (Rect.unit (s := S2x2x1024) ![b.val, 0, 0] S1x2x1024.size (dHalf_inb b)) (fun _ => rfl)).squeeze
    S2x1024 squeezes_S1x2x1024_S2x1024
abbrev oSet (b hp : Fin 2) : Finset S2x16x2x1024.Idx := (oHalf b hp).view.set
abbrev dSet (b : Fin 2) : Finset S2x2x1024.Idx := (dHalf b).view.set

theorem mem_oSet {b hp : Fin 2} {x : S2x16x2x1024.Idx} :
    x ∈ oSet b hp ↔ (x 0).val = b.val ∧ 8 * hp.val ≤ (x 1).val ∧ (x 1).val < 8 * hp.val + 8 := by
  have h : oSet b hp = (Rect.unit (s := S2x16x2x1024) ![b.val, 8 * hp.val, 0, 0] S1x8x2x1024.size (oHalf_inb b hp)).set := by
    show (((View.whole cc0_scratch2).slice (Rect.unit (s := S2x16x2x1024) ![b.val, 8 * hp.val, 0, 0] S1x8x2x1024.size (oHalf_inb b hp))).reshape
      S8x2x1024 squeezes_S1x8x2x1024_S8x2x1024.numel_eq).set = _
    rw [View.set_reshape]; exact View.set_slice_whole _ _
  rw [h, Rect.mem_set_unit]
  have h2 : (x 2).val < 2 := (x 2).isLt
  have h3 : (x 3).val < 1024 := (x 3).isLt
  constructor
  · intro H
    have H0 := H 0
    have H1 := H 1
    simp at H0 H1
    exact ⟨by omega, by omega, by omega⟩
  · rintro ⟨h0, h1, h1'⟩ a
    fin_cases a
    · exact ⟨show b.val ≤ (x 0).val by omega, show (x 0).val < b.val + 1 by omega⟩
    · exact ⟨h1, h1'⟩
    · exact ⟨Nat.zero_le _, show (x 2).val < 0 + 2 by omega⟩
    · exact ⟨Nat.zero_le _, show (x 3).val < 0 + 1024 by omega⟩

theorem mem_dSet {b : Fin 2} {x : S2x2x1024.Idx} : x ∈ dSet b ↔ (x 0).val = b.val := by
  have h : dSet b = (Rect.unit (s := S2x2x1024) ![b.val, 0, 0] S1x2x1024.size (dHalf_inb b)).set := by
    show (((View.whole cc0_scratch1).slice (Rect.unit (s := S2x2x1024) ![b.val, 0, 0] S1x2x1024.size (dHalf_inb b))).reshape
      S2x1024 squeezes_S1x2x1024_S2x1024.numel_eq).set = _
    rw [View.set_reshape]; exact View.set_slice_whole _ _
  rw [h, Rect.mem_set_unit]
  have h1 : (x 1).val < 2 := (x 1).isLt
  have h2 : (x 2).val < 1024 := (x 2).isLt
  constructor
  · intro H
    have H0 := H 0
    simp at H0
    omega
  · rintro h0 a
    fin_cases a
    · exact ⟨show b.val ≤ (x 0).val by omega, show (x 0).val < b.val + 1 by omega⟩
    · exact ⟨Nat.zero_le _, show (x 1).val < 0 + 2 by omega⟩
    · exact ⟨Nat.zero_le _, show (x 2).val < 0 + 1024 by omega⟩

/-! ## How far a half is filled -/

/-- The elements filled once row `r` is reached, its first `t` groups of sixteen lanes and the first `j` heads of the
    next one. -/
def Past (hp : Fin 2) (r t j : ℕ) (x : S2x16x2x1024.Idx) : Prop :=
  (x 2).val < r ∨ ((x 2).val = r ∧ ((x 3).val / 16 < t ∨ ((x 3).val / 16 = t ∧ (x 1).val < 8 * hp.val + j)))

/-- `g` holds the looked-up values on what is filled of the half. -/
def Filled (T : S16x32.Idx → Elt F .f32) (Dv : S2x2x1024.Idx → BitVec 32) (b hp : Fin 2) (r t j : ℕ)
    (g : S2x16x2x1024.Idx → Elt F .f32) : Prop :=
  ∀ x ∈ oSet b hp, Past hp r t j x → g x = G T Dv x

variable {T : S16x32.Idx → Elt F .f32} {Dv : S2x2x1024.Idx → BitVec 32} {b hp : Fin 2}

theorem Filled.start (g : S2x16x2x1024.Idx → Elt F .f32) : Filled T Dv b hp 0 0 0 g := by
  intro x hx h
  obtain ⟨-, h1, -⟩ := mem_oSet.mp hx
  unfold Past at h
  exfalso; omega

theorem Filled.next {r t : ℕ} {g : S2x16x2x1024.Idx → Elt F .f32} (h : Filled T Dv b hp r t 8 g) : Filled T Dv b hp r (t + 1) 0 g := by
  intro x hx hp'
  obtain ⟨-, h1, h1'⟩ := mem_oSet.mp hx
  refine h x hx ?_
  unfold Past at *
  omega

theorem Filled.row {g : S2x16x2x1024.Idx → Elt F .f32} {r : ℕ} (h : Filled T Dv b hp r 64 0 g) : Filled T Dv b hp (r + 1) 0 0 g := by
  intro x hx hp'
  have h3 : (x 3).val < 1024 := (x 3).isLt
  obtain ⟨-, h1, -⟩ := mem_oSet.mp hx
  refine h x hx ?_
  unfold Past at *
  omega

theorem Filled.all {g : S2x16x2x1024.Idx → Elt F .f32} (h : Filled T Dv b hp 1 64 0 g) : ∀ x ∈ oSet b hp, g x = G T Dv x := by
  intro x hx
  have h2 : (x 2).val < 2 := (x 2).isLt
  have h3 : (x 3).val < 1024 := (x 3).isLt
  refine h x hx ?_
  unfold Past
  omega

/-! ## One store of sixteen lanes -/

/-- The lanes of group `t` of row `r`, head `n`, slot `b`. -/
abbrev lanes (o : Fin 4 → ℕ) (ho : ∀ a, o a + S1x1x1x16.size a ≤ S2x16x2x1024.size a) : Rect S2x16x2x1024 :=
  Rect.unit (s := S2x16x2x1024) o S1x1x1x16.size ho

theorem mem_lanes {o : Fin 4 → ℕ} {ho : ∀ a, o a + S1x1x1x16.size a ≤ S2x16x2x1024.size a} {x : S2x16x2x1024.Idx} :
    x ∈ ((oV).access (lanes o ho)).set
      ↔ (x 0).val = o 0 ∧ (x 1).val = o 1 ∧ (x 2).val = o 2 ∧ o 3 ≤ (x 3).val ∧ (x 3).val < o 3 + 16 := by
  have h : ((oV).access (lanes o ho)).set = (lanes o ho).set := View.set_slice_whole _ _
  rw [h, Rect.mem_set_unit]
  constructor
  · intro H
    have H0 : o 0 ≤ (x 0).val ∧ (x 0).val < o 0 + 1 := H 0
    have H1 : o 1 ≤ (x 1).val ∧ (x 1).val < o 1 + 1 := H 1
    have H2 : o 2 ≤ (x 2).val ∧ (x 2).val < o 2 + 1 := H 2
    have H3 : o 3 ≤ (x 3).val ∧ (x 3).val < o 3 + 16 := H 3
    omega
  · rintro ⟨h0, h1, h2, h3, h3'⟩ a
    fin_cases a
    · exact ⟨show o 0 ≤ (x 0).val by omega, show (x 0).val < o 0 + 1 by omega⟩
    · exact ⟨show o 1 ≤ (x 1).val by omega, show (x 1).val < o 1 + 1 by omega⟩
    · exact ⟨show o 2 ≤ (x 2).val by omega, show (x 2).val < o 2 + 1 by omega⟩
    · exact ⟨h3, h3'⟩

/-- Storing a head's sixteen looked-up lanes fills one head more of the group. -/
theorem Filled.store {r t j : ℕ} {g : S2x16x2x1024.Idx → Elt F .f32} (h : Filled T Dv b hp r t j g)
    {o : Fin 4 → ℕ} {ho : ∀ a, o a + S1x1x1x16.size a ≤ S2x16x2x1024.size a} (ho' : o = ![b.val, 8 * hp.val + j, r, 16 * t])
    {w : S1x1x1x16.Idx → Elt F .f32} (hw : ∀ y, w y = G T Dv ((lanes o ho).emb y)) :
    Filled T Dv b hp r t (j + 1) (((oV).access (lanes o ho)).write (Elt F) g w Finset.univ) := by
  intro x hx hx'
  by_cases hm : x ∈ ((oV).access (lanes o ho)).set
  · obtain ⟨y, -, rfl⟩ := Finset.mem_map.mp hm
    rw [View.write_emb_of_mem _ _ (Finset.mem_univ y)]
    exact hw y
  · rw [View.write_of_not_mem _ _ _ hm]
    refine h x hx ?_
    rw [mem_lanes] at hm
    have h3 : (x 3).val < 1024 := (x 3).isLt
    obtain ⟨h0, h1, h1'⟩ := mem_oSet.mp hx
    have e0 : o 0 = b.val := by rw [ho']; rfl
    have e1 : o 1 = 8 * hp.val + j := by rw [ho']; rfl
    have e2 : o 2 = r := by rw [ho']; rfl
    have e3 : o 3 = 16 * t := by rw [ho']; rfl
    unfold Past at *
    omega

theorem lanes_sub {r t j : ℕ} (hj : j < 8) {o : Fin 4 → ℕ} {ho : ∀ a, o a + S1x1x1x16.size a ≤ S2x16x2x1024.size a}
    (ho' : o = ![b.val, 8 * hp.val + j, r, 16 * t]) : ((oV).access (lanes o ho)).set ⊆ oSet b hp := by
  intro x hx
  rw [mem_lanes] at hx
  have e0 : o 0 = b.val := by rw [ho']; rfl
  have e1 : o 1 = 8 * hp.val + j := by rw [ho']; rfl
  rw [mem_oSet]
  omega

end Cert.Proof.Bias
-- ==== Proof.Trip.lean ====
/-
  One trip of an inner loop: sixteen distances read, and for each of the eight heads of the half two table rows
  gathered, one of them selected per lane, and the sixteen lanes stored. The trip is written once over its offsets
  (`trip`), each of the kernel's eight inner loops being it at its own.
-/
module

public import proofs.«01_k».proof.Proof.Fill

@[expose] public section

noncomputable section

namespace Cert.Proof.Bias

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The tile and its buffers -/

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

local notation "tV" => (Memref.whole Cert.KernelIdeal.cc0_scratch0 : Memref Cert.KernelIdeal.sig Kind.scVector Space.vmem Cert.KernelIdeal.S16x32 EltTy.f32)
local notation "dV" => (Memref.whole Cert.KernelIdeal.cc0_scratch1 : Memref Cert.KernelIdeal.sig Kind.scVector Space.vmem Cert.KernelIdeal.S2x2x1024 EltTy.i32)
local notation "oV" => (Memref.whole Cert.KernelIdeal.cc0_scratch2 : Memref Cert.KernelIdeal.sig Kind.scVector Space.vmem Cert.KernelIdeal.S2x16x2x1024 EltTy.f32)

/-! ## The trip -/

theorem tabLo_inb (n : ℕ) (hn : n < 16) : ∀ a, (![n, 0] : Fin 2 → ℕ) a + S1x16.size a ≤ S16x32.size a := by
  intro a; fin_cases a
  · show n + 1 ≤ 16; omega
  · show 0 + 16 ≤ 32; omega
theorem tabHi_inb (n : ℕ) (hn : n < 16) : ∀ a, (![n, 16] : Fin 2 → ℕ) a + S1x16.size a ≤ S16x32.size a := by
  intro a; fin_cases a
  · show n + 1 ≤ 16; omega
  · show 16 + 16 ≤ 32; omega

/-- The lower and the upper sixteen columns of head `n` of the table. -/
abbrev tabLo (n : ℕ) (hn : n < 16) : Memref sig .scVector .vmem S16 .f32 :=
  ((tV).slice (Rect.unit (s := S16x32) ![n, 0] S1x16.size (tabLo_inb n hn)) (fun _ => rfl)).squeeze S16 squeezes_S1x16_S16
abbrev tabHi (n : ℕ) (hn : n < 16) : Memref sig .scVector .vmem S16 .f32 :=
  ((tV).slice (Rect.unit (s := S16x32) ![n, 16] S1x16.size (tabHi_inb n hn)) (fun _ => rfl)).squeeze S16 squeezes_S1x16_S16

section Prog

variable [FloatOps F] (L : grid0.Coords)

abbrev Pg (α : Type) := Prog (TpuEff nD τ sig (Elt F) Λ₀ (.scVector ((L 0).castLE hcore0) ((L 1).castLE hsub0))) α

/-- One head: two gathers, the select, the store. -/
def head (n : ℕ) (hn : n < 16) (v : IVec S16 32) (hv : ∀ a x, ((![v] : Fin 1 → IVec S16 32) a x).toNat < S16.size a) (c : IVec S16 1)
    (o : Fin 4 → ℕ) (ho : ∀ a, o a + S1x1x1x16.size a ≤ S2x16x2x1024.size a) : Pg (F := F) L PUnit := do
  let lo : Vec F S16 .f32 ← SparseCore.vectorLoadIdx (tabLo n hn) ![v] hv (View.loads_vmem h_S16)
  let hi : Vec F S16 .f32 ← SparseCore.vectorLoadIdx (tabHi n hn) ![v] hv (View.loads_vmem h_S16)
  let _ : Vec F S1x1x1x16 .f32 ← Prog.lift (.load (oV) (Rect.unit (s := S2x16x2x1024) o S1x1x1x16.size ho).toLoadRect (View.loadsAt_vmem h_S1x1x1x16))
  Prog.lift (.store (oV) (Rect.unit (s := S2x16x2x1024) o S1x1x1x16.size ho) (shapeCast S1x1x1x16 (select c lo hi) shapeCasts_S16_S1x1x1x16) Finset.univ
    (View.stores_vmem_bits_univ h_S1x1x1x16 rfl) (.inl rfl))

/-- Eight heads from head `n` on, at the sixteen words `w`. -/
def heads (n : ℕ) (hn : n + 7 < 16) (w : IVec S16 32)
    (hv : ∀ a x, ((![andi w (broadcast S16 15#32)] : Fin 1 → IVec S16 32) a x).toNat < S16.size a)
    (o : Fin 8 → Fin 4 → ℕ) (ho : ∀ j a, o j a + S1x1x1x16.size a ≤ S2x16x2x1024.size a) : Pg (F := F) L PUnit := do
  head L (n + 0) (by omega) (andi w (broadcast S16 15#32)) hv (cmpi .slt w (broadcast S16 16#32)) (o 0) (ho 0)
  head L (n + 1) (by omega) (andi w (broadcast S16 15#32)) hv (cmpi .slt w (broadcast S16 16#32)) (o 1) (ho 1)
  head L (n + 2) (by omega) (andi w (broadcast S16 15#32)) hv (cmpi .slt w (broadcast S16 16#32)) (o 2) (ho 2)
  head L (n + 3) (by omega) (andi w (broadcast S16 15#32)) hv (cmpi .slt w (broadcast S16 16#32)) (o 3) (ho 3)
  head L (n + 4) (by omega) (andi w (broadcast S16 15#32)) hv (cmpi .slt w (broadcast S16 16#32)) (o 4) (ho 4)
  head L (n + 5) (by omega) (andi w (broadcast S16 15#32)) hv (cmpi .slt w (broadcast S16 16#32)) (o 5) (ho 5)
  head L (n + 6) (by omega) (andi w (broadcast S16 15#32)) hv (cmpi .slt w (broadcast S16 16#32)) (o 6) (ho 6)
  head L (n + 7) (by omega) (andi w (broadcast S16 15#32)) hv (cmpi .slt w (broadcast S16 16#32)) (o 7) (ho 7)

/-- The trip: the sixteen words read, the gathers' index check, the eight heads. -/
def trip (chk : IVec S16 32 → Prop) (dec : ∀ v, Decidable (chk v)) (n : ℕ) (hn : n + 7 < 16)
    (hchk : ∀ v, chk v → ∀ a x, ((![v] : Fin 1 → IVec S16 32) a x).toNat < S16.size a)
    (od : Fin 3 → ℕ) (hod : ∀ a, od a + S1x1x16.size a ≤ S2x2x1024.size a)
    (o : Fin 8 → Fin 4 → ℕ) (ho : ∀ j a, o j a + S1x1x1x16.size a ≤ S2x16x2x1024.size a) : Pg (F := F) L PUnit :=
  .op (.load (dV) (Rect.unit (s := S2x2x1024) od S1x1x16.size hod).toLoadRect (View.loadsAt_vmem h_S1x1x16)) fun ld =>
  .op (.assume (chk (andi (shapeCast S16 ld shapeCasts_S1x1x16_S16) (broadcast S16 15#32))) (dec _)) fun hc =>
  heads L n hn (shapeCast S16 ld shapeCasts_S1x1x16_S16) (hchk _ hc.down) o ho

end Prog

/-! ## What the gathers read -/

variable {T : S16x32.Idx → Elt F .f32} {Dv : S2x2x1024.Idx → BitVec 32} {b hp : Fin 2}

theorem squeeze16 (y : S16.Idx) : Shape.reshapeEquiv (s := S1x16) (s' := S16) squeezes_S1x16_S16.numel_eq y = ix2 (⟨0, Nat.one_pos⟩ : Fin 1) (y 0) :=
  Shape.reshapeEquiv_eq_of_rowMajor _ (by
    refine (Shape.rowMajor_val_two (d := ![1, 16]) _).trans (Eq.trans ?_ (Shape.rowMajor_val_one (d := ![16]) y).symm)
    show 0 * 16 + (y 0).val = (y 0).val
    omega)

theorem spread16 (y : S1x1x1x16.Idx) :
    ∃ x : S16.Idx, Shape.reshapeEquiv (s := S16) (s' := S1x1x1x16) shapeCasts_S16_S1x1x1x16 y = x ∧ (x 0).val = (y 3).val :=
  ⟨ix1 (⟨(y 3).val, (y 3).isLt⟩ : Fin 16), Shape.reshapeEquiv_eq_of_rowMajor _ (by
    refine (Shape.rowMajor_val_one (d := ![16]) _).trans (Eq.trans ?_ (Shape.rowMajor_val_four (d := ![1, 1, 1, 16]) y).symm)
    have h0 : (y 0).val < 1 := (y 0).isLt
    have h1 : (y 1).val < 1 := (y 1).isLt
    have h2 : (y 2).val < 1 := (y 2).isLt
    show (y 3).val = (((y 0).val * 1 + (y 1).val) * 1 + (y 2).val) * 16 + (y 3).val
    omega), rfl⟩

theorem lo_apply (n : ℕ) (hn : n < 16) (v : IVec S16 32) (hv : ∀ a x, ((![v] : Fin 1 → IVec S16 32) a x).toNat < S16.size a) (x : S16.Idx)
    (hx : (v x).toNat < 32) :
    loadIdx (((tabLo n hn).access (.whole S16)).read (Elt F) T) ![v] hv x = T (ix2 ⟨n, hn⟩ ⟨(v x).toNat, hx⟩) := by
  show T _ = T _
  congr 1
  show (Rect.unit (s := S16x32) ![n, 0] S1x16.size (tabLo_inb n hn)).emb
    (Shape.reshapeEquiv (s := S1x16) (s' := S16) squeezes_S1x16_S16.numel_eq ((Rect.whole S16).emb (idxAt ![v] hv x))) = _
  rw [Rect.emb_whole_apply, squeeze16]
  funext a; apply Fin.ext
  match a with
  | ⟨0, _⟩ => show n + 1 * 0 = n; omega
  | ⟨1, _⟩ => show 0 + 1 * (v x).toNat = (v x).toNat; omega

theorem hi_apply (n : ℕ) (hn : n < 16) (v : IVec S16 32) (hv : ∀ a x, ((![v] : Fin 1 → IVec S16 32) a x).toNat < S16.size a) (x : S16.Idx)
    (hx : 16 + (v x).toNat < 32) :
    loadIdx (((tabHi n hn).access (.whole S16)).read (Elt F) T) ![v] hv x = T (ix2 ⟨n, hn⟩ ⟨16 + (v x).toNat, hx⟩) := by
  show T _ = T _
  congr 1
  show (Rect.unit (s := S16x32) ![n, 16] S1x16.size (tabHi_inb n hn)).emb
    (Shape.reshapeEquiv (s := S1x16) (s' := S16) squeezes_S1x16_S16.numel_eq ((Rect.whole S16).emb (idxAt ![v] hv x))) = _
  rw [Rect.emb_whole_apply, squeeze16]
  funext a; apply Fin.ext
  match a with
  | ⟨0, _⟩ => show n + 1 * 0 = n; omega
  | ⟨1, _⟩ => show 16 + 1 * (v x).toNat = 16 + (v x).toNat; omega

/-- The sixteen distances read, as a vector of sixteen. -/
theorem ld_apply {r t : ℕ} {od : Fin 3 → ℕ} {hod : ∀ a, od a + S1x1x16.size a ≤ S2x2x1024.size a} (hod' : od = ![b.val, r, 16 * t])
    (h0 : b.val < 2) (h1 : r < 2) (x : S16.Idx) (h2 : 16 * t + (x 0).val < 1024) :
    shapeCast S16 ((dV).view.readAt (Elt F) (Rect.unit (s := S2x2x1024) od S1x1x16.size hod).toLoadRect Dv) shapeCasts_S1x1x16_S16 x
      = Dv (ix3 ⟨b.val, h0⟩ ⟨r, h1⟩ ⟨16 * t + (x 0).val, h2⟩) := by
  subst hod'
  have e : Shape.reshapeEquiv (s := S1x1x16) (s' := S16) shapeCasts_S1x1x16_S16 x = ix3 (⟨0, Nat.one_pos⟩ : Fin 1) (⟨0, Nat.one_pos⟩ : Fin 1) (x 0) :=
    Shape.reshapeEquiv_eq_of_rowMajor _ (by
      refine (Shape.rowMajor_val_three (d := ![1, 1, 16]) _).trans (Eq.trans ?_ (Shape.rowMajor_val_one (d := ![16]) x).symm)
      show (0 * 1 + 0) * 16 + (x 0).val = (x 0).val
      omega)
  show Dv ((Rect.unit (s := S2x2x1024) ![b.val, r, 16 * t] S1x1x16.size hod).toLoadRect.idx (Shape.reshapeEquiv (s := S1x1x16) (s' := S16) shapeCasts_S1x1x16_S16 x)) = _
  rw [e]
  congr 1
  funext a; apply Fin.ext
  match a with
  | ⟨0, _⟩ => show b.val + 1 * 0 = b.val; omega
  | ⟨1, _⟩ => show r + 1 * 0 = r; omega
  | ⟨2, _⟩ => show 16 * t + 1 * (x 0).val = 16 * t + (x 0).val; omega

section Runs

variable [FloatOps F] (d : Dev nD) (L : grid0.Coords)

/-- The table and the half, filled up to head `j` of group `t` of row `r`. -/
abbrev upTo (T : S16x32.Idx → Elt F .f32) (Dv : S2x2x1024.Idx → BitVec 32) (b hp : Fin 2) (r t j : ℕ) : sProp 𝕄 :=
  iprop(((tV).view.loc (VT d L) ↦{fullShare} T) ∗ ∃ g, ⌜Filled T Dv b hp r t j g⌝ ∗ ((oV).view.loc (VT d L) ↦[oSet b hp]{fullShare} g))

theorem head_spec (r t j : ℕ) (hr : r < 2) (ht : t < 64) (hj : j < 8) (n : ℕ) (hn : n < 16) (hnj : n = 8 * hp.val + j)
    (w : IVec S16 32) (hv) (o : Fin 4 → ℕ) (ho) (ho' : o = ![b.val, 8 * hp.val + j, r, 16 * t])
    (hw : ∀ x : S16.Idx, w x = Dv (ix3 b ⟨r, hr⟩ ⟨16 * t + (x 0).val, by have : (x 0).val < 16 := (x 0).isLt; show _ < 1024; omega⟩)) :
    upTo d L T Dv b hp r t j
      ⊢ wp frame (wpE (defs₀ (F := F)) 𝒱₀ (VT d L) none) Set.univ
          (head (F := F) L n hn (andi w (broadcast S16 15#32)) hv (cmpi .slt w (broadcast S16 16#32)) o ho)
          fun _ => upTo d L T Dv b hp r t (j + 1) := by
  unfold head
  iintro ⟨Ht, %g, %hg, Ho⟩
  iapply (SparseCore.wp_vectorLoadIdx 𝒱₀ (VT d L) none Set.univ (base := tabLo n hn) (S := Finset.univ) (q := fullShare) (Finset.subset_univ _)) $$ Ht
  iintro Ht
  iapply (SparseCore.wp_vectorLoadIdx 𝒱₀ (VT d L) none Set.univ (base := tabHi n hn) (S := Finset.univ) (q := fullShare) (Finset.subset_univ _)) $$ Ht
  iintro Ht
  iapply (wp_load_rect 𝒱₀ (VT d L) none Set.univ (m := oV) (r := lanes o ho) (S := oSet b hp) (lanes_sub hj ho')) $$ Ho
  iintro Ho
  iapply (wp_store 𝒱₀ (VT d L) none Set.univ (m := oV) (r := lanes o ho) (Mk := Finset.univ) (S := oSet b hp) (lanes_sub hj ho')) $$ Ho
  iintro Ho
  rw [wp_ret]; imodintro
  isplitl [Ht]; · iexact Ht
  iexists _; isplitr
  rotate_left; · iexact Ho
  ipureintro
  refine hg.store ho' fun y => ?_
  have hb := b.isLt
  have h0 : (y 0).val < 1 := (y 0).isLt
  have h1 : (y 1).val < 1 := (y 1).isLt
  have h2 : (y 2).val < 1 := (y 2).isLt
  have h3 : (y 3).val < 16 := (y 3).isLt
  have h3' : 16 * t + (y 3).val < 1024 := by omega
  have e : (lanes o ho).emb y = ix4 b ⟨n, hn⟩ ⟨r, hr⟩ ⟨16 * t + (y 3).val, h3'⟩ := by
    subst ho'
    funext a; apply Fin.ext
    match a with
    | ⟨0, _⟩ => show b.val + 1 * (y 0).val = b.val; omega
    | ⟨1, _⟩ => show 8 * hp.val + j + 1 * (y 1).val = n; omega
    | ⟨2, _⟩ => show r + 1 * (y 2).val = r; omega
    | ⟨3, _⟩ => show 16 * t + 1 * (y 3).val = 16 * t + (y 3).val; omega
  rw [e]
  obtain ⟨x, hx, hx0⟩ := spread16 y
  have hwy : w x = Dv (ix3 b ⟨r, hr⟩ ⟨16 * t + (y 3).val, h3'⟩) := (hw x).trans (by simp only [hx0])
  have hlt := and15_lt (w x)
  show select _ _ _ (Shape.reshapeEquiv (s := S16) (s' := S1x1x1x16) shapeCasts_S16_S1x1x1x16 y) = _
  rw [hx]
  show Scalar.select (IntOp.cmpi .slt (w x) 16#32) (loadIdx _ _ _ x) (loadIdx _ _ _ x)
    = pick T ⟨n, hn⟩ (Dv (ix3 b ⟨r, hr⟩ ⟨16 * t + (y 3).val, h3'⟩))
  refine (congr (congrArg _ (lo_apply (T := T) n hn _ hv x (show (w x &&& 15#32).toNat < 32 by omega)))
    (hi_apply (T := T) n hn _ hv x (show 16 + (w x &&& 15#32).toNat < 32 by omega))).trans ?_
  rw [← hwy]
  rfl

theorem heads_spec (r t : ℕ) (hr : r < 2) (ht : t < 64) (n : ℕ) (hn : n + 7 < 16) (hn' : n = 8 * hp.val) (w : IVec S16 32) (hv)
    (o : Fin 8 → Fin 4 → ℕ) (ho) (ho' : ∀ j : Fin 8, o j = ![b.val, n + j.val, r, 16 * t])
    (hw : ∀ x : S16.Idx, w x = Dv (ix3 b ⟨r, hr⟩ ⟨16 * t + (x 0).val, by have : (x 0).val < 16 := (x 0).isLt; show _ < 1024; omega⟩)) :
    upTo d L T Dv b hp r t 0
      ⊢ wp frame (wpE (defs₀ (F := F)) 𝒱₀ (VT d L) none) Set.univ (heads (F := F) L n hn w hv o ho) fun _ => upTo d L T Dv b hp r t 8 := by
  have step : ∀ (j : ℕ) (hj : j < 8), upTo d L T Dv b hp r t j
      ⊢ wp frame (wpE (defs₀ (F := F)) 𝒱₀ (VT d L) none) Set.univ
          (head (F := F) L (n + j) (by omega) (andi w (broadcast S16 15#32)) hv (cmpi .slt w (broadcast S16 16#32)) (o ⟨j, hj⟩) (ho ⟨j, hj⟩))
          fun _ => upTo d L T Dv b hp r t (j + 1) := fun j hj =>
    head_spec d L r t j hr ht hj (n + j) (by omega) (by rw [hn']) w hv _ _ (by rw [ho' ⟨j, hj⟩, hn']) hw
  unfold heads
  rw [wp_bind]; refine (step 0 (by decide)).trans (wp_mono _ _ _ fun _ => ?_)
  rw [wp_bind]; refine (step 1 (by decide)).trans (wp_mono _ _ _ fun _ => ?_)
  rw [wp_bind]; refine (step 2 (by decide)).trans (wp_mono _ _ _ fun _ => ?_)
  rw [wp_bind]; refine (step 3 (by decide)).trans (wp_mono _ _ _ fun _ => ?_)
  rw [wp_bind]; refine (step 4 (by decide)).trans (wp_mono _ _ _ fun _ => ?_)
  rw [wp_bind]; refine (step 5 (by decide)).trans (wp_mono _ _ _ fun _ => ?_)
  rw [wp_bind]; refine (step 6 (by decide)).trans (wp_mono _ _ _ fun _ => ?_)
  exact step 7 (by decide)

theorem dsub {r t : ℕ} (hr : r < 2) (ht : t < 64) {od : Fin 3 → ℕ} {hod : ∀ a, od a + S1x1x16.size a ≤ S2x2x1024.size a} (hod' : od = ![b.val, r, 16 * t]) :
    (dV).view.setOn (Rect.unit (s := S2x2x1024) od S1x1x16.size hod).toLoadRect.set ⊆ dSet b := by
  intro x hx
  obtain ⟨y, hy, rfl⟩ := Finset.mem_map.mp hx
  rw [mem_dSet]
  have h : y ∈ (Rect.unit (s := S2x2x1024) od S1x1x16.size hod).set := hy
  rw [Rect.mem_set_unit] at h
  have h0 : od 0 ≤ (y 0).val ∧ (y 0).val < od 0 + 1 := h 0
  have e : od 0 = b.val := by rw [hod']; rfl
  show (y 0).val = b.val
  omega

theorem trip_spec (r t : ℕ) (hr : r < 2) (ht : t < 64) (chk : IVec S16 32 → Prop) (dec : ∀ v, Decidable (chk v)) (n : ℕ) (hn : n + 7 < 16)
    (hn' : n = 8 * hp.val) (hchk) (hall : ∀ v : IVec S16 32, (∀ x, (v x).toNat < 16) → chk v)
    (od : Fin 3 → ℕ) (hod) (hod' : od = ![b.val, r, 16 * t])
    (o : Fin 8 → Fin 4 → ℕ) (ho) (ho' : ∀ j : Fin 8, o j = ![b.val, n + j.val, r, 16 * t]) :
    iprop(((dV).view.loc (VT d L) ↦[dSet b]{fullShare} Dv) ∗ upTo d L T Dv b hp r t 0)
      ⊢ wp frame (wpE (defs₀ (F := F)) 𝒱₀ (VT d L) none) Set.univ (trip (F := F) L chk dec n hn hchk od hod o ho)
          fun _ => iprop(((dV).view.loc (VT d L) ↦[dSet b]{fullShare} Dv) ∗ upTo d L T Dv b hp r (t + 1) 0) := by
  unfold trip
  iintro ⟨Hd, H⟩
  iapply (wp_load 𝒱₀ (VT d L) none Set.univ (m := dV) (S := dSet b) (dsub hr ht hod')) $$ Hd
  iintro Hd
  have hc : chk (andi (shapeCast S16 ((dV).view.readAt (Elt F) (Rect.unit (s := S2x2x1024) od S1x1x16.size hod).toLoadRect Dv) shapeCasts_S1x1x16_S16)
    (broadcast S16 15#32)) := hall _ fun x => and15_lt _
  rw [wp_assume_of 𝒱₀ (VT d L) none Set.univ hc]
  ihave H' := (heads_spec d L (T := T) (Dv := Dv) (b := b) (hp := hp) r t hr ht n hn hn' _ (hchk _ (hall _ fun x => and15_lt _)) o ho ho'
    (fun x => ld_apply hod' b.isLt hr x (by have : (x 0).val < 16 := (x 0).isLt; omega))) $$ H
  iapply (wp_wand _ _ _) $$ H'
  iintro %_ ⟨Ht, %g, %hg, Ho⟩
  isplitl [Hd]; · iexact Hd
  isplitl [Ht]; · iexact Ht
  iexists g; isplitr
  · ipureintro; exact hg.next
  · iexact Ho

end Runs

end Cert.Proof.Bias
-- ==== Proof.Loops.lean ====
/-
  The eight inner loops, each filling one row of one half of an output slot: `k0_t2`‥`k0_t9` are (slot, half, row) in
  order, each trip being `trip` at its own offsets.
-/
module

public import proofs.«01_k».proof.Proof.Trip

@[expose] public section

noncomputable section

namespace Cert.Proof.Bias

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.KernelIdeal.cc0_scratch0 : Memref Cert.KernelIdeal.sig Kind.scVector Space.vmem Cert.KernelIdeal.S16x32 EltTy.f32)
local notation "dV" => (Memref.whole Cert.KernelIdeal.cc0_scratch1 : Memref Cert.KernelIdeal.sig Kind.scVector Space.vmem Cert.KernelIdeal.S2x2x1024 EltTy.i32)
local notation "oV" => (Memref.whole Cert.KernelIdeal.cc0_scratch2 : Memref Cert.KernelIdeal.sig Kind.scVector Space.vmem Cert.KernelIdeal.S2x16x2x1024 EltTy.f32)

variable {T : S16x32.Idx → Elt F .f32} {Dv : S2x2x1024.Idx → BitVec 32}
variable [FloatOps F] (d : Dev nD) (L : grid0.Coords)

/-- A counted loop of 64 trips, each of them `trip` at the trip's offsets. -/
theorem loop_spec {b hp : Fin 2} (r : ℕ) (hr : r < 2) (l : Scf.Loop 32) (hok : l.OK) (hl : l.trips = 64)
    (body : Fin l.trips → Unit → Pg (F := F) L Unit)
    (chk : IVec S16 32 → Prop) (dec : ∀ v, Decidable (chk v)) (n : ℕ) (hn : n + 7 < 16) (hn' : n = 8 * hp.val) (hchk)
    (hall : ∀ v : IVec S16 32, (∀ x, (v x).toNat < 16) → chk v)
    (od : Fin l.trips → Fin 3 → ℕ) (hod : ∀ t a, od t a + S1x1x16.size a ≤ S2x2x1024.size a) (hod' : ∀ t, od t = ![b.val, r, 16 * t.val])
    (o : Fin l.trips → Fin 8 → Fin 4 → ℕ) (ho : ∀ t j a, o t j a + S1x1x1x16.size a ≤ S2x16x2x1024.size a) (ho' : ∀ t (j : Fin 8), o t j = ![b.val, n + j.val, r, 16 * t.val])
    (hbody : ∀ t u, body t u = trip (F := F) L chk dec n hn hchk (od t) (hod t) (o t) (ho t)) :
    iprop(((dV).view.loc (VT d L) ↦[dSet b]{fullShare} Dv) ∗ upTo d L T Dv b hp r 0 0)
      ⊢ wp frame (wpE (defs₀ (F := F)) 𝒱₀ (VT d L) none) Set.univ (Scf.Loop.for l hok ⟨⟩ body)
          fun _ => iprop(((dV).view.loc (VT d L) ↦[dSet b]{fullShare} Dv) ∗ upTo d L T Dv b hp r 64 0) := by
  have h := Scf.wp_for (M := 𝕄) frame (wpE (defs₀ (F := F)) 𝒱₀ (VT d L) none) Set.univ l.lb l.ub l.st hok ⟨⟩ body
    (fun t _ => iprop(((dV).view.loc (VT d L) ↦[dSet b]{fullShare} Dv) ∗ upTo d L T Dv b hp r t 0))
    (fun t u => by
      rw [hbody t u]
      exact trip_spec d L r t.val hr (Nat.lt_of_lt_of_eq t.isLt hl) chk dec n hn hn' hchk hall (od t) (hod t) (hod' t) (o t) (ho t) (ho' t))
    (Q := fun _ => iprop(((dV).view.loc (VT d L) ↦[dSet b]{fullShare} Dv) ∗ upTo d L T Dv b hp r 64 0))
  refine BIBase.Entails.trans ?_ h
  iintro H
  isplitl [H]; · iexact H
  iintro %_ H
  rw [show Scf.trips l.lb l.ub l.st = 64 from hl]
  iexact H

section Loops

variable (a2 : Memref sig .scVector .hbm S1024x1024 .i32) (h2 : a2.IsWhole) (a3 : Memref sig .scVector .hbm S16x32 .f32) (h3 : a3.IsWhole)
  (a4 : Memref sig .scVector .hbm S16x1024x1024 .f32) (h4 : a4.IsWhole) (h5 : (tV).IsWhole) (h6 : (dV).IsWhole) (h7 : (oV).IsWhole)
  (a8 a9 a10 a11 a12 : DmaSems sig S_) (v2 : BitVec 32)

def outs2 (t : Fin k0_t2_loop.trips) : Fin 8 → Fin 4 → ℕ :=
  ![k0_off3 t, k0_off4 t, k0_off5 t, k0_off6 t, k0_off7 t, k0_off8 t, k0_off9 t, k0_off10 t]
theorem outs2_inb (t : Fin k0_t2_loop.trips) : ∀ (j : Fin 8) (a), outs2 t j a + S1x1x1x16.size a ≤ S2x16x2x1024.size a :=
  fun j => match j with | 0 => k0_off3_inb t | 1 => k0_off4_inb t | 2 => k0_off5_inb t | 3 => k0_off6_inb t | 4 => k0_off7_inb t | 5 => k0_off8_inb t | 6 => k0_off9_inb t | 7 => k0_off10_inb t
theorem outs2_eq (t : Fin k0_t2_loop.trips) : ∀ j : Fin 8, outs2 t j = ![((0 : Fin 2)).val, 0 + j.val, 0, 16 * t.val] :=
  fun j => match j with | 0 => k0_off3_eq t | 1 => k0_off4_eq t | 2 => k0_off5_eq t | 3 => k0_off6_eq t | 4 => k0_off7_eq t | 5 => k0_off8_eq t | 6 => k0_off9_eq t | 7 => k0_off10_eq t
set_option maxRecDepth 65536 in
theorem body2_eq (c c' : BitVec 32) (t1 : Fin k0_t1_loop.trips) (t : Fin k0_t2_loop.trips) (u : Unit) :
    k0_t2_body (F := F) L a2 h2 a3 h3 a4 h4 (tV) h5 (dV) h6 (oV) h7 a8 a9 a10 a11 a12 v2 c c' t1 t u
      = trip (F := F) L k0_chk1 k0_chk1.dec 0 (by decide) k0_idx1_inb (k0_off2 t) (k0_off2_inb t) (outs2 t) (outs2_inb t) := by
  simp only [k0_t2_body, k0_part1_eq_skeleton, k0_part2_eq_skeleton]
  rfl
theorem loop2_spec (c c' : BitVec 32) (t1 : Fin k0_t1_loop.trips) :
    iprop(((dV).view.loc (VT d L) ↦[dSet 0]{fullShare} Dv) ∗ upTo d L T Dv 0 0 0 0 0)
      ⊢ wp frame (wpE (defs₀ (F := F)) 𝒱₀ (VT d L) none) Set.univ
          (Scf.Loop.for k0_t2_loop k0_t2_ok ⟨⟩ (k0_t2_body (F := F) L a2 h2 a3 h3 a4 h4 (tV) h5 (dV) h6 (oV) h7 a8 a9 a10 a11 a12 v2 c c' t1))
          fun _ => iprop(((dV).view.loc (VT d L) ↦[dSet 0]{fullShare} Dv) ∗ upTo d L T Dv 0 0 0 64 0) :=
  loop_spec d L 0 (by decide) k0_t2_loop k0_t2_ok rfl _ k0_chk1 k0_chk1.dec 0 (by decide) rfl k0_idx1_inb
    (fun v hv => by
      have h : ∀ a x, ((![v] : Fin 1 → IVec S16 32) a x).toNat < S16.size a := fun a x => by
        obtain rfl : a = 0 := Subsingleton.elim _ _
        exact hv x
      exact ⟨h, h, h, h, h, h, h, h, h, h, h, h, h, h, h, h⟩)
    (fun t => k0_off2 t) (fun t => k0_off2_inb t) (fun t => k0_off2_eq t) outs2 outs2_inb outs2_eq
    (body2_eq L a2 h2 a3 h3 a4 h4 h5 h6 h7 a8 a9 a10 a11 a12 v2 c c' t1)

def outs3 (t : Fin k0_t3_loop.trips) : Fin 8 → Fin 4 → ℕ :=
  ![k0_off12 t, k0_off13 t, k0_off14 t, k0_off15 t, k0_off16 t, k0_off17 t, k0_off18 t, k0_off19 t]
theorem outs3_inb (t : Fin k0_t3_loop.trips) : ∀ (j : Fin 8) (a), outs3 t j a + S1x1x1x16.size a ≤ S2x16x2x1024.size a :=
  fun j => match j with | 0 => k0_off12_inb t | 1 => k0_off13_inb t | 2 => k0_off14_inb t | 3 => k0_off15_inb t | 4 => k0_off16_inb t | 5 => k0_off17_inb t | 6 => k0_off18_inb t | 7 => k0_off19_inb t
theorem outs3_eq (t : Fin k0_t3_loop.trips) : ∀ j : Fin 8, outs3 t j = ![((0 : Fin 2)).val, 0 + j.val, 1, 16 * t.val] :=
  fun j => match j with | 0 => k0_off12_eq t | 1 => k0_off13_eq t | 2 => k0_off14_eq t | 3 => k0_off15_eq t | 4 => k0_off16_eq t | 5 => k0_off17_eq t | 6 => k0_off18_eq t | 7 => k0_off19_eq t
set_option maxRecDepth 65536 in
theorem body3_eq (c c' : BitVec 32) (t1 : Fin k0_t1_loop.trips) (t : Fin k0_t3_loop.trips) (u : Unit) :
    k0_t3_body (F := F) L a2 h2 a3 h3 a4 h4 (tV) h5 (dV) h6 (oV) h7 a8 a9 a10 a11 a12 v2 c c' t1 t u
      = trip (F := F) L k0_chk2 k0_chk2.dec 0 (by decide) k0_idx17_inb (k0_off11 t) (k0_off11_inb t) (outs3 t) (outs3_inb t) := by
  simp only [k0_t3_body, k0_part3_eq_skeleton, k0_part4_eq_skeleton]
  rfl
theorem loop3_spec (c c' : BitVec 32) (t1 : Fin k0_t1_loop.trips) :
    iprop(((dV).view.loc (VT d L) ↦[dSet 0]{fullShare} Dv) ∗ upTo d L T Dv 0 0 1 0 0)
      ⊢ wp frame (wpE (defs₀ (F := F)) 𝒱₀ (VT d L) none) Set.univ
          (Scf.Loop.for k0_t3_loop k0_t3_ok ⟨⟩ (k0_t3_body (F := F) L a2 h2 a3 h3 a4 h4 (tV) h5 (dV) h6 (oV) h7 a8 a9 a10 a11 a12 v2 c c' t1))
          fun _ => iprop(((dV).view.loc (VT d L) ↦[dSet 0]{fullShare} Dv) ∗ upTo d L T Dv 0 0 1 64 0) :=
  loop_spec d L 1 (by decide) k0_t3_loop k0_t3_ok rfl _ k0_chk2 k0_chk2.dec 0 (by decide) rfl k0_idx17_inb
    (fun v hv => by
      have h : ∀ a x, ((![v] : Fin 1 → IVec S16 32) a x).toNat < S16.size a := fun a x => by
        obtain rfl : a = 0 := Subsingleton.elim _ _
        exact hv x
      exact ⟨h, h, h, h, h, h, h, h, h, h, h, h, h, h, h, h⟩)
    (fun t => k0_off11 t) (fun t => k0_off11_inb t) (fun t => k0_off11_eq t) outs3 outs3_inb outs3_eq
    (body3_eq L a2 h2 a3 h3 a4 h4 h5 h6 h7 a8 a9 a10 a11 a12 v2 c c' t1)

def outs4 (t : Fin k0_t4_loop.trips) : Fin 8 → Fin 4 → ℕ :=
  ![k0_off22 t, k0_off23 t, k0_off24 t, k0_off25 t, k0_off26 t, k0_off27 t, k0_off28 t, k0_off29 t]
theorem outs4_inb (t : Fin k0_t4_loop.trips) : ∀ (j : Fin 8) (a), outs4 t j a + S1x1x1x16.size a ≤ S2x16x2x1024.size a :=
  fun j => match j with | 0 => k0_off22_inb t | 1 => k0_off23_inb t | 2 => k0_off24_inb t | 3 => k0_off25_inb t | 4 => k0_off26_inb t | 5 => k0_off27_inb t | 6 => k0_off28_inb t | 7 => k0_off29_inb t
theorem outs4_eq (t : Fin k0_t4_loop.trips) : ∀ j : Fin 8, outs4 t j = ![((0 : Fin 2)).val, 8 + j.val, 0, 16 * t.val] :=
  fun j => match j with | 0 => k0_off22_eq t | 1 => k0_off23_eq t | 2 => k0_off24_eq t | 3 => k0_off25_eq t | 4 => k0_off26_eq t | 5 => k0_off27_eq t | 6 => k0_off28_eq t | 7 => k0_off29_eq t
set_option maxRecDepth 65536 in
theorem body4_eq (t1 : Fin k0_t1_loop.trips) (c c' : BitVec 32) (t : Fin k0_t4_loop.trips) (u : Unit) :
    k0_t4_body (F := F) L a2 h2 a3 h3 a4 h4 (tV) h5 (dV) h6 (oV) h7 a8 a9 a10 a11 a12 v2 t1 c c' t u
      = trip (F := F) L k0_chk3 k0_chk3.dec 8 (by decide) k0_idx33_inb (k0_off21 t) (k0_off21_inb t) (outs4 t) (outs4_inb t) := by
  simp only [k0_t4_body, k0_part5_eq_skeleton, k0_part6_eq_skeleton]
  rfl
theorem loop4_spec (t1 : Fin k0_t1_loop.trips) (c c' : BitVec 32) :
    iprop(((dV).view.loc (VT d L) ↦[dSet 0]{fullShare} Dv) ∗ upTo d L T Dv 0 1 0 0 0)
      ⊢ wp frame (wpE (defs₀ (F := F)) 𝒱₀ (VT d L) none) Set.univ
          (Scf.Loop.for k0_t4_loop k0_t4_ok ⟨⟩ (k0_t4_body (F := F) L a2 h2 a3 h3 a4 h4 (tV) h5 (dV) h6 (oV) h7 a8 a9 a10 a11 a12 v2 t1 c c'))
          fun _ => iprop(((dV).view.loc (VT d L) ↦[dSet 0]{fullShare} Dv) ∗ upTo d L T Dv 0 1 0 64 0) :=
  loop_spec d L 0 (by decide) k0_t4_loop k0_t4_ok rfl _ k0_chk3 k0_chk3.dec 8 (by decide) rfl k0_idx33_inb
    (fun v hv => by
      have h : ∀ a x, ((![v] : Fin 1 → IVec S16 32) a x).toNat < S16.size a := fun a x => by
        obtain rfl : a = 0 := Subsingleton.elim _ _
        exact hv x
      exact ⟨h, h, h, h, h, h, h, h, h, h, h, h, h, h, h, h⟩)
    (fun t => k0_off21 t) (fun t => k0_off21_inb t) (fun t => k0_off21_eq t) outs4 outs4_inb outs4_eq
    (body4_eq L a2 h2 a3 h3 a4 h4 h5 h6 h7 a8 a9 a10 a11 a12 v2 t1 c c')

def outs5 (t : Fin k0_t5_loop.trips) : Fin 8 → Fin 4 → ℕ :=
  ![k0_off31 t, k0_off32 t, k0_off33 t, k0_off34 t, k0_off35 t, k0_off36 t, k0_off37 t, k0_off38 t]
theorem outs5_inb (t : Fin k0_t5_loop.trips) : ∀ (j : Fin 8) (a), outs5 t j a + S1x1x1x16.size a ≤ S2x16x2x1024.size a :=
  fun j => match j with | 0 => k0_off31_inb t | 1 => k0_off32_inb t | 2 => k0_off33_inb t | 3 => k0_off34_inb t | 4 => k0_off35_inb t | 5 => k0_off36_inb t | 6 => k0_off37_inb t | 7 => k0_off38_inb t
theorem outs5_eq (t : Fin k0_t5_loop.trips) : ∀ j : Fin 8, outs5 t j = ![((0 : Fin 2)).val, 8 + j.val, 1, 16 * t.val] :=
  fun j => match j with | 0 => k0_off31_eq t | 1 => k0_off32_eq t | 2 => k0_off33_eq t | 3 => k0_off34_eq t | 4 => k0_off35_eq t | 5 => k0_off36_eq t | 6 => k0_off37_eq t | 7 => k0_off38_eq t
set_option maxRecDepth 65536 in
theorem body5_eq (t1 : Fin k0_t1_loop.trips) (c c' : BitVec 32) (t : Fin k0_t5_loop.trips) (u : Unit) :
    k0_t5_body (F := F) L a2 h2 a3 h3 a4 h4 (tV) h5 (dV) h6 (oV) h7 a8 a9 a10 a11 a12 v2 t1 c c' t u
      = trip (F := F) L k0_chk4 k0_chk4.dec 8 (by decide) k0_idx49_inb (k0_off30 t) (k0_off30_inb t) (outs5 t) (outs5_inb t) := by
  simp only [k0_t5_body, k0_part7_eq_skeleton, k0_part8_eq_skeleton]
  rfl
theorem loop5_spec (t1 : Fin k0_t1_loop.trips) (c c' : BitVec 32) :
    iprop(((dV).view.loc (VT d L) ↦[dSet 0]{fullShare} Dv) ∗ upTo d L T Dv 0 1 1 0 0)
      ⊢ wp frame (wpE (defs₀ (F := F)) 𝒱₀ (VT d L) none) Set.univ
          (Scf.Loop.for k0_t5_loop k0_t5_ok ⟨⟩ (k0_t5_body (F := F) L a2 h2 a3 h3 a4 h4 (tV) h5 (dV) h6 (oV) h7 a8 a9 a10 a11 a12 v2 t1 c c'))
          fun _ => iprop(((dV).view.loc (VT d L) ↦[dSet 0]{fullShare} Dv) ∗ upTo d L T Dv 0 1 1 64 0) :=
  loop_spec d L 1 (by decide) k0_t5_loop k0_t5_ok rfl _ k0_chk4 k0_chk4.dec 8 (by decide) rfl k0_idx49_inb
    (fun v hv => by
      have h : ∀ a x, ((![v] : Fin 1 → IVec S16 32) a x).toNat < S16.size a := fun a x => by
        obtain rfl : a = 0 := Subsingleton.elim _ _
        exact hv x
      exact ⟨h, h, h, h, h, h, h, h, h, h, h, h, h, h, h, h⟩)
    (fun t => k0_off30 t) (fun t => k0_off30_inb t) (fun t => k0_off30_eq t) outs5 outs5_inb outs5_eq
    (body5_eq L a2 h2 a3 h3 a4 h4 h5 h6 h7 a8 a9 a10 a11 a12 v2 t1 c c')

def outs6 (t : Fin k0_t6_loop.trips) : Fin 8 → Fin 4 → ℕ :=
  ![k0_off42 t, k0_off43 t, k0_off44 t, k0_off45 t, k0_off46 t, k0_off47 t, k0_off48 t, k0_off49 t]
theorem outs6_inb (t : Fin k0_t6_loop.trips) : ∀ (j : Fin 8) (a), outs6 t j a + S1x1x1x16.size a ≤ S2x16x2x1024.size a :=
  fun j => match j with | 0 => k0_off42_inb t | 1 => k0_off43_inb t | 2 => k0_off44_inb t | 3 => k0_off45_inb t | 4 => k0_off46_inb t | 5 => k0_off47_inb t | 6 => k0_off48_inb t | 7 => k0_off49_inb t
theorem outs6_eq (t : Fin k0_t6_loop.trips) : ∀ j : Fin 8, outs6 t j = ![((1 : Fin 2)).val, 0 + j.val, 0, 16 * t.val] :=
  fun j => match j with | 0 => k0_off42_eq t | 1 => k0_off43_eq t | 2 => k0_off44_eq t | 3 => k0_off45_eq t | 4 => k0_off46_eq t | 5 => k0_off47_eq t | 6 => k0_off48_eq t | 7 => k0_off49_eq t
set_option maxRecDepth 65536 in
theorem body6_eq (t1 : Fin k0_t1_loop.trips) (c : BitVec 32) (t : Fin k0_t6_loop.trips) (u : Unit) :
    k0_t6_body (F := F) L a2 h2 a3 h3 a4 h4 (tV) h5 (dV) h6 (oV) h7 a8 a9 a10 a11 a12 v2 t1 c t u
      = trip (F := F) L k0_chk5 k0_chk5.dec 0 (by decide) k0_idx65_inb (k0_off41 t) (k0_off41_inb t) (outs6 t) (outs6_inb t) := by
  simp only [k0_t6_body, k0_part9_eq_skeleton, k0_part10_eq_skeleton]
  rfl
theorem loop6_spec (t1 : Fin k0_t1_loop.trips) (c : BitVec 32) :
    iprop(((dV).view.loc (VT d L) ↦[dSet 1]{fullShare} Dv) ∗ upTo d L T Dv 1 0 0 0 0)
      ⊢ wp frame (wpE (defs₀ (F := F)) 𝒱₀ (VT d L) none) Set.univ
          (Scf.Loop.for k0_t6_loop k0_t6_ok ⟨⟩ (k0_t6_body (F := F) L a2 h2 a3 h3 a4 h4 (tV) h5 (dV) h6 (oV) h7 a8 a9 a10 a11 a12 v2 t1 c))
          fun _ => iprop(((dV).view.loc (VT d L) ↦[dSet 1]{fullShare} Dv) ∗ upTo d L T Dv 1 0 0 64 0) :=
  loop_spec d L 0 (by decide) k0_t6_loop k0_t6_ok rfl _ k0_chk5 k0_chk5.dec 0 (by decide) rfl k0_idx65_inb
    (fun v hv => by
      have h : ∀ a x, ((![v] : Fin 1 → IVec S16 32) a x).toNat < S16.size a := fun a x => by
        obtain rfl : a = 0 := Subsingleton.elim _ _
        exact hv x
      exact ⟨h, h, h, h, h, h, h, h, h, h, h, h, h, h, h, h⟩)
    (fun t => k0_off41 t) (fun t => k0_off41_inb t) (fun t => k0_off41_eq t) outs6 outs6_inb outs6_eq
    (body6_eq L a2 h2 a3 h3 a4 h4 h5 h6 h7 a8 a9 a10 a11 a12 v2 t1 c)

def outs7 (t : Fin k0_t7_loop.trips) : Fin 8 → Fin 4 → ℕ :=
  ![k0_off51 t, k0_off52 t, k0_off53 t, k0_off54 t, k0_off55 t, k0_off56 t, k0_off57 t, k0_off58 t]
theorem outs7_inb (t : Fin k0_t7_loop.trips) : ∀ (j : Fin 8) (a), outs7 t j a + S1x1x1x16.size a ≤ S2x16x2x1024.size a :=
  fun j => match j with | 0 => k0_off51_inb t | 1 => k0_off52_inb t | 2 => k0_off53_inb t | 3 => k0_off54_inb t | 4 => k0_off55_inb t | 5 => k0_off56_inb t | 6 => k0_off57_inb t | 7 => k0_off58_inb t
theorem outs7_eq (t : Fin k0_t7_loop.trips) : ∀ j : Fin 8, outs7 t j = ![((1 : Fin 2)).val, 0 + j.val, 1, 16 * t.val] :=
  fun j => match j with | 0 => k0_off51_eq t | 1 => k0_off52_eq t | 2 => k0_off53_eq t | 3 => k0_off54_eq t | 4 => k0_off55_eq t | 5 => k0_off56_eq t | 6 => k0_off57_eq t | 7 => k0_off58_eq t
set_option maxRecDepth 65536 in
theorem body7_eq (t1 : Fin k0_t1_loop.trips) (c : BitVec 32) (t : Fin k0_t7_loop.trips) (u : Unit) :
    k0_t7_body (F := F) L a2 h2 a3 h3 a4 h4 (tV) h5 (dV) h6 (oV) h7 a8 a9 a10 a11 a12 v2 t1 c t u
      = trip (F := F) L k0_chk6 k0_chk6.dec 0 (by decide) k0_idx81_inb (k0_off50 t) (k0_off50_inb t) (outs7 t) (outs7_inb t) := by
  simp only [k0_t7_body, k0_part11_eq_skeleton, k0_part12_eq_skeleton]
  rfl
theorem loop7_spec (t1 : Fin k0_t1_loop.trips) (c : BitVec 32) :
    iprop(((dV).view.loc (VT d L) ↦[dSet 1]{fullShare} Dv) ∗ upTo d L T Dv 1 0 1 0 0)
      ⊢ wp frame (wpE (defs₀ (F := F)) 𝒱₀ (VT d L) none) Set.univ
          (Scf.Loop.for k0_t7_loop k0_t7_ok ⟨⟩ (k0_t7_body (F := F) L a2 h2 a3 h3 a4 h4 (tV) h5 (dV) h6 (oV) h7 a8 a9 a10 a11 a12 v2 t1 c))
          fun _ => iprop(((dV).view.loc (VT d L) ↦[dSet 1]{fullShare} Dv) ∗ upTo d L T Dv 1 0 1 64 0) :=
  loop_spec d L 1 (by decide) k0_t7_loop k0_t7_ok rfl _ k0_chk6 k0_chk6.dec 0 (by decide) rfl k0_idx81_inb
    (fun v hv => by
      have h : ∀ a x, ((![v] : Fin 1 → IVec S16 32) a x).toNat < S16.size a := fun a x => by
        obtain rfl : a = 0 := Subsingleton.elim _ _
        exact hv x
      exact ⟨h, h, h, h, h, h, h, h, h, h, h, h, h, h, h, h⟩)
    (fun t => k0_off50 t) (fun t => k0_off50_inb t) (fun t => k0_off50_eq t) outs7 outs7_inb outs7_eq
    (body7_eq L a2 h2 a3 h3 a4 h4 h5 h6 h7 a8 a9 a10 a11 a12 v2 t1 c)

def outs8 (t : Fin k0_t8_loop.trips) : Fin 8 → Fin 4 → ℕ :=
  ![k0_off60 t, k0_off61 t, k0_off62 t, k0_off63 t, k0_off64 t, k0_off65 t, k0_off66 t, k0_off67 t]
theorem outs8_inb (t : Fin k0_t8_loop.trips) : ∀ (j : Fin 8) (a), outs8 t j a + S1x1x1x16.size a ≤ S2x16x2x1024.size a :=
  fun j => match j with | 0 => k0_off60_inb t | 1 => k0_off61_inb t | 2 => k0_off62_inb t | 3 => k0_off63_inb t | 4 => k0_off64_inb t | 5 => k0_off65_inb t | 6 => k0_off66_inb t | 7 => k0_off67_inb t
theorem outs8_eq (t : Fin k0_t8_loop.trips) : ∀ j : Fin 8, outs8 t j = ![((1 : Fin 2)).val, 8 + j.val, 0, 16 * t.val] :=
  fun j => match j with | 0 => k0_off60_eq t | 1 => k0_off61_eq t | 2 => k0_off62_eq t | 3 => k0_off63_eq t | 4 => k0_off64_eq t | 5 => k0_off65_eq t | 6 => k0_off66_eq t | 7 => k0_off67_eq t
set_option maxRecDepth 65536 in
theorem body8_eq (t1 : Fin k0_t1_loop.trips) (c : BitVec 32) (t : Fin k0_t8_loop.trips) (u : Unit) :
    k0_t8_body (F := F) L a2 h2 a3 h3 a4 h4 (tV) h5 (dV) h6 (oV) h7 a8 a9 a10 a11 a12 v2 t1 c t u
      = trip (F := F) L k0_chk7 k0_chk7.dec 8 (by decide) k0_idx97_inb (k0_off59 t) (k0_off59_inb t) (outs8 t) (outs8_inb t) := by
  simp only [k0_t8_body, k0_part13_eq_skeleton, k0_part14_eq_skeleton]
  rfl
theorem loop8_spec (t1 : Fin k0_t1_loop.trips) (c : BitVec 32) :
    iprop(((dV).view.loc (VT d L) ↦[dSet 1]{fullShare} Dv) ∗ upTo d L T Dv 1 1 0 0 0)
      ⊢ wp frame (wpE (defs₀ (F := F)) 𝒱₀ (VT d L) none) Set.univ
          (Scf.Loop.for k0_t8_loop k0_t8_ok ⟨⟩ (k0_t8_body (F := F) L a2 h2 a3 h3 a4 h4 (tV) h5 (dV) h6 (oV) h7 a8 a9 a10 a11 a12 v2 t1 c))
          fun _ => iprop(((dV).view.loc (VT d L) ↦[dSet 1]{fullShare} Dv) ∗ upTo d L T Dv 1 1 0 64 0) :=
  loop_spec d L 0 (by decide) k0_t8_loop k0_t8_ok rfl _ k0_chk7 k0_chk7.dec 8 (by decide) rfl k0_idx97_inb
    (fun v hv => by
      have h : ∀ a x, ((![v] : Fin 1 → IVec S16 32) a x).toNat < S16.size a := fun a x => by
        obtain rfl : a = 0 := Subsingleton.elim _ _
        exact hv x
      exact ⟨h, h, h, h, h, h, h, h, h, h, h, h, h, h, h, h⟩)
    (fun t => k0_off59 t) (fun t => k0_off59_inb t) (fun t => k0_off59_eq t) outs8 outs8_inb outs8_eq
    (body8_eq L a2 h2 a3 h3 a4 h4 h5 h6 h7 a8 a9 a10 a11 a12 v2 t1 c)

def outs9 (t : Fin k0_t9_loop.trips) : Fin 8 → Fin 4 → ℕ :=
  ![k0_off69 t, k0_off70 t, k0_off71 t, k0_off72 t, k0_off73 t, k0_off74 t, k0_off75 t, k0_off76 t]
theorem outs9_inb (t : Fin k0_t9_loop.trips) : ∀ (j : Fin 8) (a), outs9 t j a + S1x1x1x16.size a ≤ S2x16x2x1024.size a :=
  fun j => match j with | 0 => k0_off69_inb t | 1 => k0_off70_inb t | 2 => k0_off71_inb t | 3 => k0_off72_inb t | 4 => k0_off73_inb t | 5 => k0_off74_inb t | 6 => k0_off75_inb t | 7 => k0_off76_inb t
theorem outs9_eq (t : Fin k0_t9_loop.trips) : ∀ j : Fin 8, outs9 t j = ![((1 : Fin 2)).val, 8 + j.val, 1, 16 * t.val] :=
  fun j => match j with | 0 => k0_off69_eq t | 1 => k0_off70_eq t | 2 => k0_off71_eq t | 3 => k0_off72_eq t | 4 => k0_off73_eq t | 5 => k0_off74_eq t | 6 => k0_off75_eq t | 7 => k0_off76_eq t
set_option maxRecDepth 65536 in
theorem body9_eq (t1 : Fin k0_t1_loop.trips) (c : BitVec 32) (t : Fin k0_t9_loop.trips) (u : Unit) :
    k0_t9_body (F := F) L a2 h2 a3 h3 a4 h4 (tV) h5 (dV) h6 (oV) h7 a8 a9 a10 a11 a12 v2 t1 c t u
      = trip (F := F) L k0_chk8 k0_chk8.dec 8 (by decide) k0_idx113_inb (k0_off68 t) (k0_off68_inb t) (outs9 t) (outs9_inb t) := by
  simp only [k0_t9_body, k0_part15_eq_skeleton, k0_part16_eq_skeleton]
  rfl
theorem loop9_spec (t1 : Fin k0_t1_loop.trips) (c : BitVec 32) :
    iprop(((dV).view.loc (VT d L) ↦[dSet 1]{fullShare} Dv) ∗ upTo d L T Dv 1 1 1 0 0)
      ⊢ wp frame (wpE (defs₀ (F := F)) 𝒱₀ (VT d L) none) Set.univ
          (Scf.Loop.for k0_t9_loop k0_t9_ok ⟨⟩ (k0_t9_body (F := F) L a2 h2 a3 h3 a4 h4 (tV) h5 (dV) h6 (oV) h7 a8 a9 a10 a11 a12 v2 t1 c))
          fun _ => iprop(((dV).view.loc (VT d L) ↦[dSet 1]{fullShare} Dv) ∗ upTo d L T Dv 1 1 1 64 0) :=
  loop_spec d L 1 (by decide) k0_t9_loop k0_t9_ok rfl _ k0_chk8 k0_chk8.dec 8 (by decide) rfl k0_idx113_inb
    (fun v hv => by
      have h : ∀ a x, ((![v] : Fin 1 → IVec S16 32) a x).toNat < S16.size a := fun a x => by
        obtain rfl : a = 0 := Subsingleton.elim _ _
        exact hv x
      exact ⟨h, h, h, h, h, h, h, h, h, h, h, h, h, h, h, h⟩)
    (fun t => k0_off68 t) (fun t => k0_off68_inb t) (fun t => k0_off68_eq t) outs9 outs9_inb outs9_eq
    (body9_eq L a2 h2 a3 h3 a4 h4 h5 h6 h7 a8 a9 a10 a11 a12 v2 t1 c)

end Loops

end Cert.Proof.Bias
-- ==== Proof.Pieces.lean ====
/-
  The rows of the distances a copy brings in and the piece of the result a copy takes out, as sets of elements; what
  the buffer holds once the rows are in; what the piece holds once the half is out.
-/
module

public import proofs.«01_k».proof.Proof.Loops

@[expose] public section

noncomputable section

namespace Cert.Proof.Bias

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "aV" => (Memref.whole Cert.KernelIdeal.main_arg0_scv : Memref Cert.KernelIdeal.sig Kind.scVector Space.hbm Cert.KernelIdeal.S1024x1024 EltTy.i32)
local notation "uV" => (Memref.whole Cert.KernelIdeal.main_v0_scv : Memref Cert.KernelIdeal.sig Kind.scVector Space.hbm Cert.KernelIdeal.S16x32 EltTy.f32)
local notation "yV" => (Memref.whole Cert.KernelIdeal.main_v1_scv : Memref Cert.KernelIdeal.sig Kind.scVector Space.hbm Cert.KernelIdeal.S16x1024x1024 EltTy.f32)
local notation "tV" => (Memref.whole Cert.KernelIdeal.cc0_scratch0 : Memref Cert.KernelIdeal.sig Kind.scVector Space.vmem Cert.KernelIdeal.S16x32 EltTy.f32)
local notation "dV" => (Memref.whole Cert.KernelIdeal.cc0_scratch1 : Memref Cert.KernelIdeal.sig Kind.scVector Space.vmem Cert.KernelIdeal.S2x2x1024 EltTy.i32)
local notation "oV" => (Memref.whole Cert.KernelIdeal.cc0_scratch2 : Memref Cert.KernelIdeal.sig Kind.scVector Space.vmem Cert.KernelIdeal.S2x16x2x1024 EltTy.f32)

/-! ## Rows of the distances, pieces of the result -/

abbrev aLoc (d : Dev nD) : Loc nD τ sig := (SparseCore.T d).loc main_arg0
abbrev uLoc (d : Dev nD) : Loc nD τ sig := (SparseCore.T d).loc main_v0
abbrev yLoc (d : Dev nD) : Loc nD τ sig := (SparseCore.T d).loc main_v1

/-- The first of a tile's 32 rows. -/
abbrev row0 (L : grid0.Coords) : ℕ := 64 * (L 1).val + 32 * (L 0).val
theorem row0_le (L : grid0.Coords) : row0 L + 32 ≤ 1024 := by
  have h0 : (L 0).val < 2 := (L 0).isLt
  have h1 : (L 1).val < 16 := (L 1).isLt
  show 64 * (L 1).val + 32 * (L 0).val + 32 ≤ 1024
  omega

/-- Rows `lo ‥ hi - 1` of the distances; the same rows of heads `8 hp ‥ 8 hp + 7` of the result. -/
def aRows (lo hi : ℕ) : Finset S1024x1024.Idx := Finset.univ.filter fun x => lo ≤ (x 0).val ∧ (x 0).val < hi
def yRows (hp : Fin 2) (lo hi : ℕ) : Finset S16x1024x1024.Idx :=
  Finset.univ.filter fun x => (8 * hp.val ≤ (x 0).val ∧ (x 0).val < 8 * hp.val + 8) ∧ lo ≤ (x 1).val ∧ (x 1).val < hi
theorem mem_aRows {lo hi : ℕ} {x : S1024x1024.Idx} : x ∈ aRows lo hi ↔ lo ≤ (x 0).val ∧ (x 0).val < hi := by
  unfold aRows; rw [Finset.mem_filter]; exact and_iff_right (Finset.mem_univ x)
theorem mem_yRows {hp : Fin 2} {lo hi : ℕ} {x : S16x1024x1024.Idx} :
    x ∈ yRows hp lo hi ↔ (8 * hp.val ≤ (x 0).val ∧ (x 0).val < 8 * hp.val + 8) ∧ lo ≤ (x 1).val ∧ (x 1).val < hi := by
  unfold yRows; rw [Finset.mem_filter]; exact and_iff_right (Finset.mem_univ x)

theorem aRows_cut {lo mid hi : ℕ} (h1 : lo ≤ mid) (h2 : mid ≤ hi) : aRows lo hi = aRows lo mid ∪ aRows mid hi := by
  ext x; rw [Finset.mem_union, mem_aRows, mem_aRows, mem_aRows]; omega
theorem aRows_apart {lo mid hi : ℕ} : Disjoint (aRows lo mid) (aRows mid hi) := by
  rw [Finset.disjoint_left]; intro x hx hx'; rw [mem_aRows] at hx hx'; omega
theorem aRows_none {lo hi : ℕ} (h : hi ≤ lo) : aRows lo hi = ∅ := by
  rw [Finset.eq_empty_iff_forall_notMem]; intro x hx; rw [mem_aRows] at hx; omega
theorem yRows_cut {hp : Fin 2} {lo mid hi : ℕ} (h1 : lo ≤ mid) (h2 : mid ≤ hi) : yRows hp lo hi = yRows hp lo mid ∪ yRows hp mid hi := by
  ext x; rw [Finset.mem_union, mem_yRows, mem_yRows, mem_yRows]; omega
theorem yRows_apart {hp : Fin 2} {lo mid hi : ℕ} : Disjoint (yRows hp lo mid) (yRows hp mid hi) := by
  rw [Finset.disjoint_left]; intro x hx hx'; rw [mem_yRows] at hx hx'; omega
theorem yRows_none {hp : Fin 2} {lo hi : ℕ} (h : hi ≤ lo) : yRows hp lo hi = ∅ := by
  rw [Finset.eq_empty_iff_forall_notMem]; intro x hx; rw [mem_yRows] at hx; omega

section Pts

variable (d : Dev nD)

theorem a_cut {lo mid hi : ℕ} (h1 : lo ≤ mid) (h2 : mid ≤ hi) (f : Buf (Elt F) (aLoc d)) :
    (aLoc d ↦[aRows lo hi]{fullShare} f : sProp 𝕄) ⊣⊢ iprop((aLoc d ↦[aRows lo mid]{fullShare} f) ∗ aLoc d ↦[aRows mid hi]{fullShare} f) := by
  rw [aRows_cut h1 h2]; exact pointsTo_union aRows_apart
theorem y_cut {hp : Fin 2} {lo mid hi : ℕ} (h1 : lo ≤ mid) (h2 : mid ≤ hi) (f : Buf (Elt F) (yLoc d)) :
    (yLoc d ↦[yRows hp lo hi]{fullShare} f : sProp 𝕄) ⊣⊢ iprop((yLoc d ↦[yRows hp lo mid]{fullShare} f) ∗ yLoc d ↦[yRows hp mid hi]{fullShare} f) := by
  rw [yRows_cut h1 h2]; exact pointsTo_union yRows_apart
theorem a_none {lo hi : ℕ} (h : hi ≤ lo) (f : Buf (Elt F) (aLoc d)) : (aLoc d ↦[aRows lo hi]{fullShare} f : sProp 𝕄) = iprop(emp) := by
  rw [aRows_none h, pointsTo_empty]
theorem y_none {hp : Fin 2} {lo hi : ℕ} (h : hi ≤ lo) (f : Buf (Elt F) (yLoc d)) : (yLoc d ↦[yRows hp lo hi]{fullShare} f : sProp 𝕄) = iprop(emp) := by
  rw [yRows_none h, pointsTo_empty]

end Pts

/-! ## The two windows as a copy slices them -/

/-- Two rows of the distances, at offset `off`; two rows of eight heads of the result. -/
abbrev aSl (off : Fin 2 → ℕ) (h : ∀ a, off a + S2x1024.size a ≤ S1024x1024.size a) : Memref sig .scVector .hbm S2x1024 .i32 :=
  (aV).slice (Rect.unit (s := S1024x1024) off S2x1024.size h) (fun _ => rfl)
abbrev ySl (off : Fin 3 → ℕ) (h : ∀ a, off a + S8x2x1024.size a ≤ S16x1024x1024.size a) : Memref sig .scVector .hbm S8x2x1024 .f32 :=
  (yV).slice (Rect.unit (s := S16x1024x1024) off S8x2x1024.size h) (fun _ => rfl)

theorem set_aSl {off : Fin 2 → ℕ} {h : ∀ a, off a + S2x1024.size a ≤ S1024x1024.size a} {r0 : ℕ} (ho : off = ![r0, 0]) :
    (aSl off h).view.set = aRows r0 (r0 + 2) := by
  have e : (aSl off h).view.set = (Rect.unit (s := S1024x1024) off S2x1024.size h).set := View.set_slice_whole _ _
  subst ho
  rw [e]; ext x; rw [Rect.mem_set_unit, mem_aRows]
  have h1 : (x 1).val < 1024 := (x 1).isLt
  constructor
  · intro H; exact H 0
  · intro H a
    fin_cases a
    · exact H
    · exact ⟨Nat.zero_le _, show (x 1).val < 0 + 1024 by omega⟩

theorem set_ySl {off : Fin 3 → ℕ} {h : ∀ a, off a + S8x2x1024.size a ≤ S16x1024x1024.size a} {hp : Fin 2} {r0 : ℕ} (ho : off = ![8 * hp.val, r0, 0]) :
    (ySl off h).view.set = yRows hp r0 (r0 + 2) := by
  have e : (ySl off h).view.set = (Rect.unit (s := S16x1024x1024) off S8x2x1024.size h).set := View.set_slice_whole _ _
  subst ho
  rw [e]; ext x; rw [Rect.mem_set_unit, mem_yRows]
  have h2 : (x 2).val < 1024 := (x 2).isLt
  constructor
  · intro H; exact ⟨H 0, H 1⟩
  · intro H a
    fin_cases a
    · exact H.1
    · exact H.2
    · exact ⟨Nat.zero_le _, show (x 2).val < 0 + 1024 by omega⟩

/-! ## What a copy leaves -/

/-- The two rows from row `r0` of the distances on, as either slot of the input buffer holds them. -/
def near (A : S1024x1024.Idx → BitVec 32) (r0 : ℕ) : S2x2x1024.Idx → BitVec 32 :=
  fun x => A (ix2 (⟨(r0 + (x 1).val) % 1024, Nat.mod_lt _ (by decide)⟩ : Fin 1024) (x 2))

/-- The result: at head `h`, row `i`, column `j` the table's entry for head `h` at the distance of row `i`, column `j`. -/
def OUT (T : S16x32.Idx → Elt F .f32) (A : S1024x1024.Idx → BitVec 32) : S16x1024x1024.Idx → Elt F .f32 :=
  fun x => pick T (x 0) (A (ix2 (x 1) (x 2)))

theorem squeezeD (y : S2x1024.Idx) :
    Shape.reshapeEquiv (s := S1x2x1024) (s' := S2x1024) squeezes_S1x2x1024_S2x1024.numel_eq y = ix3 (⟨0, Nat.one_pos⟩ : Fin 1) (y 0) (y 1) :=
  Shape.reshapeEquiv_eq_of_rowMajor _ (by
    refine (Shape.rowMajor_val_three (d := ![1, 2, 1024]) _).trans (Eq.trans ?_ (Shape.rowMajor_val_two (d := ![2, 1024]) y).symm)
    show (0 * 2 + (y 0).val) * 1024 + (y 1).val = (y 0).val * 1024 + (y 1).val
    omega)
theorem squeezeO (y : S8x2x1024.Idx) :
    Shape.reshapeEquiv (s := S1x8x2x1024) (s' := S8x2x1024) squeezes_S1x8x2x1024_S8x2x1024.numel_eq y
      = ix4 (⟨0, Nat.one_pos⟩ : Fin 1) (y 0) (y 1) (y 2) :=
  Shape.reshapeEquiv_eq_of_rowMajor _ (by
    refine (Shape.rowMajor_val_four (d := ![1, 8, 2, 1024]) _).trans (Eq.trans ?_ (Shape.rowMajor_val_three (d := ![8, 2, 1024]) y).symm)
    show ((0 * 8 + (y 0).val) * 2 + (y 1).val) * 1024 + (y 2).val = ((y 0).val * 2 + (y 1).val) * 1024 + (y 2).val
    omega)

theorem dHalf_emb (b : Fin 2) (y : S2x1024.Idx) : (dHalf b).view.emb y = ix3 b (y 0) (y 1) := by
  show (Rect.unit (s := S2x2x1024) ![b.val, 0, 0] S1x2x1024.size (dHalf_inb b)).emb
    (Shape.reshapeEquiv (s := S1x2x1024) (s' := S2x1024) squeezes_S1x2x1024_S2x1024.numel_eq y) = _
  rw [squeezeD]
  funext a; apply Fin.ext
  match a with
  | ⟨0, _⟩ => show b.val + 1 * 0 = b.val; omega
  | ⟨1, _⟩ => show 0 + 1 * (y 0).val = (y 0).val; omega
  | ⟨2, _⟩ => show 0 + 1 * (y 1).val = (y 1).val; omega
theorem oHalf_emb (b hp : Fin 2) (y : S8x2x1024.Idx) (h : 8 * hp.val + (y 0).val < 16) :
    (oHalf b hp).view.emb y = ix4 b (⟨8 * hp.val + (y 0).val, h⟩ : Fin 16) (y 1) (y 2) := by
  show (Rect.unit (s := S2x16x2x1024) ![b.val, 8 * hp.val, 0, 0] S1x8x2x1024.size (oHalf_inb b hp)).emb
    (Shape.reshapeEquiv (s := S1x8x2x1024) (s' := S8x2x1024) squeezes_S1x8x2x1024_S8x2x1024.numel_eq y) = _
  rw [squeezeO]
  funext a; apply Fin.ext
  match a with
  | ⟨0, _⟩ => show b.val + 1 * 0 = b.val; omega
  | ⟨1, _⟩ => show 8 * hp.val + 1 * (y 0).val = 8 * hp.val + (y 0).val; omega
  | ⟨2, _⟩ => show 0 + 1 * (y 1).val = (y 1).val; omega
  | ⟨3, _⟩ => show 0 + 1 * (y 2).val = (y 2).val; omega

/-- Two rows copied into slot `b` of the input buffer. -/
theorem fetched {b : Fin 2} {off : Fin 2 → ℕ} {h : ∀ a, off a + S2x1024.size a ≤ S1024x1024.size a} {r0 : ℕ} (ho : off = ![r0, 0])
    (fd : S2x2x1024.Idx → BitVec 32) (A : S1024x1024.Idx → BitVec 32) :
    ∀ x ∈ dSet b, (dHalf b).view.write (Elt F) fd (ReadAs.same.apply ((aSl off h).view.read (Elt F) A)) Finset.univ x = near A r0 x := by
  subst ho
  intro x hx
  have hr : r0 + 2 ≤ 1024 := h 0
  obtain ⟨y, -, rfl⟩ := Finset.mem_map.mp hx
  refine (View.write_emb_of_mem _ _ (Finset.mem_univ y)).trans ?_
  have e := dHalf_emb b y
  show A ((Rect.unit (s := S1024x1024) ![r0, 0] S2x1024.size h).emb y) = near A r0 ((dHalf b).view.emb y)
  rw [e]
  unfold near
  congr 1
  have h0 : (y 0).val < 2 := (y 0).isLt
  funext a; apply Fin.ext
  match a with
  | ⟨0, _⟩ => show r0 + 1 * (y 0).val = (r0 + (y 0).val) % 1024; omega
  | ⟨1, _⟩ => show 0 + 1 * (y 1).val = (y 1).val; omega

/-- A half copied out of slot `b` of the output buffer, once it holds the looked-up values of rows `r0`, `r0 + 1`. -/
theorem staged {T : S16x32.Idx → Elt F .f32} {A : S1024x1024.Idx → BitVec 32} {b hp : Fin 2} {off : Fin 3 → ℕ}
    {h : ∀ a, off a + S8x2x1024.size a ≤ S16x1024x1024.size a} {r0 : ℕ} (ho : off = ![8 * hp.val, r0, 0])
    {g : S2x16x2x1024.Idx → Elt F .f32} (hg : ∀ x ∈ oSet b hp, g x = G T (near A r0) x) (fd : S16x1024x1024.Idx → Elt F .f32) :
    ∀ x ∈ yRows hp r0 (r0 + 2), (ySl off h).view.write (Elt F) fd (ReadAs.same.apply ((oHalf b hp).view.read (Elt F) g)) Finset.univ x = OUT T A x := by
  intro x hx
  rw [← set_ySl (h := h) ho] at hx
  subst ho
  have hr : r0 + 2 ≤ 1024 := h 1
  have hh := hp.isLt
  obtain ⟨y, -, rfl⟩ := Finset.mem_map.mp hx
  refine (View.write_emb_of_mem _ _ (Finset.mem_univ y)).trans ?_
  have hy0 : (y 0).val < 8 := (y 0).isLt
  have hy1 : (y 1).val < 2 := (y 1).isLt
  have e := oHalf_emb b hp y (by omega)
  show g ((oHalf b hp).view.emb y) = _
  rw [hg _ (Finset.mem_map.mpr ⟨y, Finset.mem_univ _, rfl⟩), e]
  have e' : (ySl ![8 * hp.val, r0, 0] h).view.emb y
      = ix3 (⟨8 * hp.val + (y 0).val, by omega⟩ : Fin 16) (⟨r0 + (y 1).val, by omega⟩ : Fin 1024) (y 2) := by
    show (Rect.unit (s := S16x1024x1024) ![8 * hp.val, r0, 0] S8x2x1024.size h).emb y = _
    funext a; apply Fin.ext
    match a with
    | ⟨0, _⟩ => show 8 * hp.val + 1 * (y 0).val = 8 * hp.val + (y 0).val; omega
    | ⟨1, _⟩ => show r0 + 1 * (y 1).val = r0 + (y 1).val; omega
    | ⟨2, _⟩ => show 0 + 1 * (y 2).val = (y 2).val; omega
  rw [e']
  show pick T (⟨8 * hp.val + (y 0).val, _⟩ : Fin 16) (A (ix2 (⟨(r0 + (y 1).val) % 1024, _⟩ : Fin 1024) (y 2)))
    = pick T (⟨8 * hp.val + (y 0).val, _⟩ : Fin 16) (A (ix2 (⟨r0 + (y 1).val, _⟩ : Fin 1024) (y 2)))
  congr 3
  exact Fin.ext (Nat.mod_eq_of_lt (by omega))

end Cert.Proof.Bias
-- ==== Proof.Copies.lean ====
/-
  The copies of a tile as rules: two rows of the distances brought in and waited for, one at a time per slot; the two
  halves of a slot taken out on one semaphore and waited for twice.
-/
module

public import proofs.«01_k».proof.Proof.Pieces

@[expose] public section

noncomputable section

namespace Cert.Proof.Bias

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "aV" => (Memref.whole Cert.KernelIdeal.main_arg0_scv : Memref Cert.KernelIdeal.sig Kind.scVector Space.hbm Cert.KernelIdeal.S1024x1024 EltTy.i32)
local notation "uV" => (Memref.whole Cert.KernelIdeal.main_v0_scv : Memref Cert.KernelIdeal.sig Kind.scVector Space.hbm Cert.KernelIdeal.S16x32 EltTy.f32)
local notation "yV" => (Memref.whole Cert.KernelIdeal.main_v1_scv : Memref Cert.KernelIdeal.sig Kind.scVector Space.hbm Cert.KernelIdeal.S16x1024x1024 EltTy.f32)
local notation "tV" => (Memref.whole Cert.KernelIdeal.cc0_scratch0 : Memref Cert.KernelIdeal.sig Kind.scVector Space.vmem Cert.KernelIdeal.S16x32 EltTy.f32)
local notation "dV" => (Memref.whole Cert.KernelIdeal.cc0_scratch1 : Memref Cert.KernelIdeal.sig Kind.scVector Space.vmem Cert.KernelIdeal.S2x2x1024 EltTy.i32)
local notation "oV" => (Memref.whole Cert.KernelIdeal.cc0_scratch2 : Memref Cert.KernelIdeal.sig Kind.scVector Space.vmem Cert.KernelIdeal.S2x16x2x1024 EltTy.f32)

section Copies

variable [FloatOps F] (d : Dev nD) (L : grid0.Coords) (T : S16x32.Idx → Elt F .f32) (A : S1024x1024.Idx → BitVec 32)

/-- The credit of the copy in of two rows; of the copy out of a half. -/
abbrev ND : ℕ := (dHalf 0).view.dmaCredit
abbrev NO : ℕ := (ySl ![0, 0, 0] inb_S16x1024x1024_S8x2x1024_0_0_0).view.dmaCredit

/-- What the tile owes, with whatever waits it has made. -/
abbrev Ow (O : CellTallies nD τ sig (HIx 1)) : sProp 𝕄 := iprop(∃ W, owes (VT d L) O W)
/-- Slot `b` of the input buffer at contents `f`; half `(b, hp)` of the output buffer at `g`. -/
abbrev dPts (b : Fin 2) (f : S2x2x1024.Idx → BitVec 32) : sProp 𝕄 := iprop((dV).view.loc (VT d L) ↦[dSet b]{fullShare} f)
abbrev oPts (b hp : Fin 2) (g : S2x16x2x1024.Idx → Elt F .f32) : sProp 𝕄 := iprop((oV).view.loc (VT d L) ↦[oSet b hp]{fullShare} g)
abbrev aPts (lo hi : ℕ) : sProp 𝕄 := iprop(aLoc d ↦[aRows lo hi]{fullShare} A)
abbrev yPts (hp : Fin 2) (lo hi : ℕ) (f : S16x1024x1024.Idx → Elt F .f32) : sProp 𝕄 := iprop(yLoc d ↦[yRows hp lo hi]{fullShare} f)

/-! ## Bringing two rows in -/

/-- The copy of rows `r0`, `r0 + 1` into slot `b`, under way. -/
def Coming (b : Fin 2) (sem : DmaSem sig) (r0 : ℕ) : sProp 𝕄 :=
  Transfers.Flight countersEmb (VT d L) (SemLoc.dma sem) (default : HIx 1) ND iprop(dPts (F := F) d L b (near A r0) ∗ aPts d A r0 (r0 + 2))

theorem fetch_spec {b : Fin 2} {sem : DmaSem sig} {off : Fin 2 → ℕ} {h : ∀ a, off a + S2x1024.size a ≤ S1024x1024.size a} {r0 : ℕ}
    (ho : off = ![r0, 0]) (fd : S2x2x1024.Idx → BitVec 32) :
    iprop(aPts d A r0 (r0 + 2) ∗ dPts (F := F) d L b fd ∗ semVal (VT d L, SemLoc.dma sem) 0)
      ⊢ wp frame (wpE (defs₀ (F := F)) 𝒱₀ (VT d L) none) Set.univ
          (Prog.lift (.enqueueDma (aSl off h) (.here (dHalf b)) (.dma sem) (View.wordExact_bits rfl) ((View.wordExact_bits rfl).reshape _ _)
            ⟨Or.inl rfl, trivial⟩)) fun _ => Coming d L A b sem r0 := by
  iintro ⟨HA, HD, HS⟩
  ihave HA' := (show (aPts (F := F) d A r0 (r0 + 2)) ⊢ ((aSl off h).view.loc (VT d L) ↦[(aSl off h).view.set]{fullShare} A : sProp 𝕄) from
    Entails.of_eq (by rw [set_aSl ho])) $$ HA
  iapply (Transfers.wp_dmaLocal countersEmb 𝒱₀ (VT d L) none (src := aSl off h) (dst := dHalf b) (default : HIx 1) ND rfl (by decide) (Finset.Subset.refl _)) $$ [HA' HD HS]
  · isplitl [HA']; · iexact HA'
    isplitl [HD]; · iexact HD
    iexact HS
  iintro HF
  rw [wp_ret]; imodintro
  unfold Coming
  iapply (Transfers.Flight_mono countersEmb (VT d L) ?_) $$ HF
  iintro ⟨HD, HA⟩
  isplitl [HD]
  · iapply (Entails.of_eq (pointsTo_congr (fetched ho fd A))) $$ HD
  · rw [set_aSl ho]
    iexact HA

theorem fetched_spec {b : Fin 2} {sem : DmaSem sig} {r0 : ℕ} {O : CellTallies nD τ sig (HIx 1)} {src : Memref sig .scVector .hbm S2x1024 .i32}
    {hs : src.view.WordExact} {hd : (dHalf b).view.WordExact} :
    iprop(Transfers.MayWaits (VT d L) (default : HIx 1) O ∗ Coming d L A b sem r0 ∗ Ow d L O)
      ⊢ wp frame (wpE (defs₀ (F := F)) 𝒱₀ (VT d L) none) Set.univ (Prog.lift (.waitDma2 sem src (dHalf b) hs hd))
          fun _ => iprop(dPts (F := F) d L b (near A r0) ∗ aPts d A r0 (r0 + 2) ∗ semVal (VT d L, SemLoc.dma sem) 0 ∗ Ow d L O) := by
  unfold Coming
  iintro ⟨#Hmw, HF, ⟨%W, HO⟩⟩
  iapply (Transfers.wp_waitLocalO countersEmb 𝒱₀ (VT d L) none (default : HIx 1) (rfl : (dHalf b).view.dmaCredit = ND)) $$ [HF HO]
  · isplitl [HF]; · iexact HF
    isplitl [HO]; · iexact HO
    iapply (Transfers.MayWaits.elim (SemLoc.dma sem)) $$ Hmw
  iintro ⟨⟨HD, HA⟩, HS, HO⟩
  rw [wp_ret]; imodintro
  isplitl [HD]; · iexact HD
  isplitl [HA]; · iexact HA
  isplitl [HS]; · iexact HS
  iexists _; iexact HO

/-! ## Taking a slot out -/

/-- What the copy of half `hp` of slot `b` brings back: its piece of the result, and the half. -/
def Brings (b : Fin 2) (r0 : ℕ) (hp : Fin 2) : sProp 𝕄 :=
  iprop(yPts d hp r0 (r0 + 2) (OUT T A) ∗ ∃ f, oPts d L b hp f)
instance Brings_storable (b : Fin 2) (r0 : ℕ) (hp : Fin 2) : BI.Storable (upEmb : UEmb _ 𝕄) (Brings d L T A b r0 hp) :=
  (inferInstance : BI.Storable (upEmb : UEmb _ 𝕄) iprop(yPts d hp r0 (r0 + 2) (OUT T A) ∗ ∃ f, oPts d L b hp f))

/-- The two copies of slot `b` on one semaphore: `j` of them issued, `u` units waited for. -/
def Going (b : Fin 2) (sem : DmaSem sig) (r0 : ℕ) (j u : ℕ) : sProp 𝕄 :=
  Transfers.Batch countersEmb (VT d L) (SemLoc.dma sem) (default : HIx 1) NO (Brings d L T A b r0) j u

theorem going_start {b : Fin 2} {sem : DmaSem sig} (r0 : ℕ) : (semVal (VT d L, SemLoc.dma sem) 0 : sProp 𝕄) ⊢ |={Set.univ}=> Going d L T A b sem r0 0 0 :=
  Transfers.batch_alloc' countersEmb (VT d L) (default : HIx 1) NO (Brings d L T A b r0)

theorem send_spec {b : Fin 2} {sem : DmaSem sig} {off : Fin 3 → ℕ} {h : ∀ a, off a + S8x2x1024.size a ≤ S16x1024x1024.size a} (hp : Fin 2) {r0 : ℕ}
    (ho : off = ![8 * hp.val, r0, 0]) (fd : S16x1024x1024.Idx → Elt F .f32) {g : S2x16x2x1024.Idx → Elt F .f32}
    (hg : ∀ x ∈ oSet b hp, g x = G T (near A r0) x) :
    iprop(oPts d L b hp g ∗ yPts d hp r0 (r0 + 2) fd ∗ Going d L T A b sem r0 hp.val 0)
      ⊢ wp frame (wpE (defs₀ (F := F)) 𝒱₀ (VT d L) none) Set.univ
          (Prog.lift (.enqueueDma (oHalf b hp) (.here (ySl off h)) (.dma sem) ((View.wordExact_bits rfl).reshape _ _) (View.wordExact_bits rfl)
            ⟨Or.inl rfl, trivial⟩)) fun _ => Going d L T A b sem r0 (hp.val + 1) 0 := by
  unfold Going
  iintro ⟨HD, HY, HB⟩
  ihave HY' := (show (yPts (F := F) d hp r0 (r0 + 2) fd) ⊢ ((ySl off h).view.loc (VT d L) ↦[(ySl off h).view.set]{fullShare} fd : sProp 𝕄) from
    Entails.of_eq (by rw [set_ySl ho])) $$ HY
  iapply (Transfers.wp_dmaBatch countersEmb 𝒱₀ (VT d L) none (src := oHalf b hp) (dst := ySl off h) (D := Brings d L T A b r0) (fs := g) (fd := fd) (q := fullShare) (default : HIx 1) NO rfl (Finset.Subset.refl _) hp.isLt (Nat.zero_le _) ?_) $$ [HD HY' HB]
  · iintro ⟨HY, HD⟩
    unfold Brings
    isplitl [HY]
    · ihave HY2 := (show ((ySl off h).view.loc (VT d L) ↦[(ySl off h).view.set]{fullShare}
          (ySl off h).view.write (Elt F) fd (ReadAs.same.apply ((oHalf b hp).view.read (Elt F) g)) Finset.univ : sProp 𝕄)
          ⊢ yPts d hp r0 (r0 + 2) ((ySl off h).view.write (Elt F) fd (ReadAs.same.apply ((oHalf b hp).view.read (Elt F) g)) Finset.univ) from
        Entails.of_eq (by rw [set_ySl ho])) $$ HY
      iapply (Entails.of_eq (pointsTo_congr (staged ho hg fd))) $$ HY2
    · iexists _; iexact HD
  · isplitl [HD]; · iexact HD
    isplitl [HY']; · iexact HY'
    iexact HB
  iintro HB
  rw [wp_ret]; imodintro
  iexact HB

theorem sent_spec {b : Fin 2} {sem : DmaSem sig} {r0 : ℕ} {O : CellTallies nD τ sig (HIx 1)} {src : Memref sig .scVector .vmem S8x2x1024 .f32}
    {off : Fin 3 → ℕ} {h : ∀ a, off a + S8x2x1024.size a ≤ S16x1024x1024.size a} {hs : src.view.WordExact} {hd : (ySl off h).view.WordExact} :
    iprop(Transfers.MayWaits (VT d L) (default : HIx 1) O ∗ Going d L T A b sem r0 2 0 ∗ Ow d L O)
      ⊢ wp frame (wpE (defs₀ (F := F)) 𝒱₀ (VT d L) none) Set.univ (Prog.lift (.waitDma2 sem src (ySl off h) hs hd))
          fun _ => iprop(Going d L T A b sem r0 2 NO ∗ Ow d L O) := by
  unfold Going
  iintro ⟨#Hmw, HB, ⟨%W, HO⟩⟩
  iapply (Transfers.wp_waitBatchO countersEmb 𝒱₀ (VT d L) none (default : HIx 1) (rfl : (ySl off h).view.dmaCredit = NO) (by decide : 0 + NO < NO * 2)) $$ [HB HO]
  · isplitl [HB]; · iexact HB
    isplitl [HO]; · iexact HO
    iapply (Transfers.MayWaits.elim (SemLoc.dma sem)) $$ Hmw
  iintro ⟨HB, HO⟩
  rw [wp_ret]; imodintro
  isplitl [HB]; · rw [show 0 + NO = NO from Nat.zero_add _]; iexact HB
  iexists _; iexact HO

theorem sentAll_spec {b : Fin 2} {sem : DmaSem sig} {r0 : ℕ} {O : CellTallies nD τ sig (HIx 1)} {src : Memref sig .scVector .vmem S8x2x1024 .f32}
    {off : Fin 3 → ℕ} {h : ∀ a, off a + S8x2x1024.size a ≤ S16x1024x1024.size a} {hs : src.view.WordExact} {hd : (ySl off h).view.WordExact} :
    iprop(Transfers.MayWaits (VT d L) (default : HIx 1) O ∗ Going d L T A b sem r0 2 NO ∗ Ow d L O)
      ⊢ wp frame (wpE (defs₀ (F := F)) 𝒱₀ (VT d L) none) Set.univ (Prog.lift (.waitDma2 sem src (ySl off h) hs hd))
          fun _ => iprop(Brings d L T A b r0 0 ∗ Brings d L T A b r0 1 ∗ semVal (VT d L, SemLoc.dma sem) 0 ∗ Ow d L O) := by
  unfold Going
  iintro ⟨#Hmw, HB, ⟨%W, HO⟩⟩
  iapply (Transfers.wp_waitBatchLastO countersEmb 𝒱₀ (VT d L) none (default : HIx 1) (rfl : (ySl off h).view.dmaCredit = NO) (by decide : 0 < NO) (by decide : NO + NO = NO * 2)) $$ [HB HO]
  · isplitl [HB]; · iexact HB
    isplitl [HO]; · iexact HO
    iapply (Transfers.MayWaits.elim (SemLoc.dma sem)) $$ Hmw
  iintro ⟨HB, HS, HO⟩
  rw [wp_ret]; imodintro
  ihave HB' := (show bigSep Finset.univ (Brings d L T A b r0) ⊢ iprop(Brings d L T A b r0 0 ∗ Brings d L T A b r0 1) from
    Entails.of_eq (bigSep_fin_two (Brings d L T A b r0))) $$ HB
  icases HB' with ⟨H0, H1⟩
  isplitl [H0]; · iexact H0
  isplitl [H1]; · iexact H1
  isplitl [HS]; · iexact HS
  iexists _; iexact HO

end Copies

end Cert.Proof.Bias
-- ==== Proof.Stages.lean ====
/-
  What a tile holds from trip to trip of its outer loop, and the first part of a trip.
-/
module

public import proofs.«01_k».proof.Proof.Copies

@[expose] public section

noncomputable section

namespace Cert.Proof.Bias

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "aV" => (Memref.whole Cert.KernelIdeal.main_arg0_scv : Memref Cert.KernelIdeal.sig Kind.scVector Space.hbm Cert.KernelIdeal.S1024x1024 EltTy.i32)
local notation "uV" => (Memref.whole Cert.KernelIdeal.main_v0_scv : Memref Cert.KernelIdeal.sig Kind.scVector Space.hbm Cert.KernelIdeal.S16x32 EltTy.f32)
local notation "yV" => (Memref.whole Cert.KernelIdeal.main_v1_scv : Memref Cert.KernelIdeal.sig Kind.scVector Space.hbm Cert.KernelIdeal.S16x1024x1024 EltTy.f32)
local notation "tV" => (Memref.whole Cert.KernelIdeal.cc0_scratch0 : Memref Cert.KernelIdeal.sig Kind.scVector Space.vmem Cert.KernelIdeal.S16x32 EltTy.f32)
local notation "dV" => (Memref.whole Cert.KernelIdeal.cc0_scratch1 : Memref Cert.KernelIdeal.sig Kind.scVector Space.vmem Cert.KernelIdeal.S2x2x1024 EltTy.i32)
local notation "oV" => (Memref.whole Cert.KernelIdeal.cc0_scratch2 : Memref Cert.KernelIdeal.sig Kind.scVector Space.vmem Cert.KernelIdeal.S2x16x2x1024 EltTy.f32)

section Stages

variable [FloatOps F] (d : Dev nD) (L : grid0.Coords) (T : S16x32.Idx → Elt F .f32) (A : S1024x1024.Idx → BitVec 32)

abbrev tPts : sProp 𝕄 := iprop((tV).view.loc (VT d L) ↦{fullShare} T)
/-- Half `(b, hp)` of the output buffer at some contents; filled from the two rows from row `r0` on. -/
abbrev oAny (b hp : Fin 2) : sProp 𝕄 := iprop(∃ g, oPts (F := F) d L b hp g)
abbrev oFull (b hp : Fin 2) (r0 : ℕ) : sProp 𝕄 := iprop(∃ g, ⌜∀ x ∈ oSet b hp, g x = G T (near A r0) x⌝ ∗ oPts d L b hp g)

/-- Slot `b` of the input buffer before trip `t`: its two rows on their way, none after the last trip. -/
def InSt (b : Fin 2) (sem : DmaSem sig) (t : ℕ) : sProp 𝕄 :=
  if t < 8 then Coming d L A b sem (row0 L + 4 * t + 2 * b.val)
  else iprop((∃ f, dPts (F := F) d L b f) ∗ semVal (VT d L, SemLoc.dma sem) 0)
/-- Slot `b` of the output buffer before trip `t`: free before the first, else on its way out. -/
def OutSt (b : Fin 2) (sem : DmaSem sig) (t : ℕ) : sProp 𝕄 :=
  if t = 0 then iprop(oAny (F := F) d L b 0 ∗ oAny d L b 1 ∗ semVal (VT d L, SemLoc.dma sem) 0)
  else Going d L T A b sem (row0 L + 4 * (t - 1) + 2 * b.val) 2 0
/-- The first `n` of the tile's rows of the result, written. -/
def Done (n : ℕ) : sProp 𝕄 := iprop(yPts d 0 (row0 L) (row0 L + n) (OUT T A) ∗ yPts d 1 (row0 L) (row0 L + n) (OUT T A))

/-! ## Small steps -/

theorem upTo_start {Dv : S2x2x1024.Idx → BitVec 32} {b hp : Fin 2} : iprop(tPts d L T ∗ oAny d L b hp) ⊢ upTo d L T Dv b hp 0 0 0 := by
  unfold upTo
  iintro ⟨HT, ⟨%g, HO⟩⟩
  isplitl [HT]; · iexact HT
  iexists g
  isplitr; · ipureintro; exact Filled.start g
  iexact HO
theorem upTo_row {Dv : S2x2x1024.Idx → BitVec 32} {b hp : Fin 2} : (upTo d L T Dv b hp 0 64 0 : sProp 𝕄) ⊢ upTo d L T Dv b hp 1 0 0 := by
  unfold upTo
  iintro ⟨HT, ⟨%g, %hg, HO⟩⟩
  isplitl [HT]; · iexact HT
  iexists g
  isplitr; · ipureintro; exact hg.row
  iexact HO
theorem upTo_all {r0 : ℕ} {b hp : Fin 2} : (upTo d L T (near A r0) b hp 1 64 0 : sProp 𝕄) ⊢ iprop(tPts d L T ∗ oFull d L T A b hp r0) := by
  unfold upTo
  iintro ⟨HT, ⟨%g, %hg, HO⟩⟩
  isplitl [HT]; · iexact HT
  iexists g
  isplitr; · ipureintro; exact hg.all
  iexact HO

/-- The two loops that fill a half, then the rest. -/
theorem fill_spec {α : Type} {b hp : Fin 2} {r0 : ℕ} (p0 p1 : Pg (F := F) L Unit) (k : Pg (F := F) L α) (Q : α → sProp 𝕄)
    (h0 : iprop(dPts (F := F) d L b (near A r0) ∗ upTo d L T (near A r0) b hp 0 0 0)
      ⊢ wp frame (wpE (defs₀ (F := F)) 𝒱₀ (VT d L) none) Set.univ p0 fun _ => iprop(dPts (F := F) d L b (near A r0) ∗ upTo d L T (near A r0) b hp 0 64 0))
    (h1 : iprop(dPts (F := F) d L b (near A r0) ∗ upTo d L T (near A r0) b hp 1 0 0)
      ⊢ wp frame (wpE (defs₀ (F := F)) 𝒱₀ (VT d L) none) Set.univ p1 fun _ => iprop(dPts (F := F) d L b (near A r0) ∗ upTo d L T (near A r0) b hp 1 64 0)) :
    iprop(tPts d L T ∗ dPts (F := F) d L b (near A r0) ∗ oAny d L b hp)
      ⊢ iprop((iprop(tPts d L T ∗ dPts (F := F) d L b (near A r0) ∗ oFull d L T A b hp r0)
            -∗ wp frame (wpE (defs₀ (F := F)) 𝒱₀ (VT d L) none) Set.univ k Q)
          -∗ wp frame (wpE (defs₀ (F := F)) 𝒱₀ (VT d L) none) Set.univ (p0 >>= fun _ => p1 >>= fun _ => k) Q) := by
  iintro ⟨HT, HD, HO⟩ Hk
  ihave HU := (upTo_start d L T (Dv := near A r0)) $$ [HT HO]
  · isplitl [HT]; · iexact HT
    iexact HO
  rw [wp_bind]
  ihave H := h0 $$ [HD HU]
  · isplitl [HD]; · iexact HD
    iexact HU
  iapply (wp_wand _ _ _) $$ H
  iintro %_ ⟨HD, HU⟩
  ihave HU := (upTo_row d L T) $$ HU
  rw [wp_bind]
  ihave H := h1 $$ [HD HU]
  · isplitl [HD]; · iexact HD
    iexact HU
  iapply (wp_wand _ _ _) $$ H
  iintro %_ ⟨HD, HU⟩
  ihave HU := (upTo_all d L T A) $$ HU
  icases HU with ⟨HT, HO⟩
  iapply Hk
  isplitl [HT]; · iexact HT
  isplitl [HD]; · iexact HD
  iexact HO

theorem done_more {b : Fin 2} {n r0 : ℕ} (h : r0 = row0 L + n) :
    iprop(Done d L T A n ∗ Brings d L T A b r0 0 ∗ Brings d L T A b r0 1) ⊢ iprop(Done d L T A (n + 2) ∗ oAny d L b 0 ∗ oAny d L b 1) := by
  subst h
  unfold Done Brings
  iintro ⟨⟨H0, H1⟩, ⟨HY0, HO0⟩, ⟨HY1, HO1⟩⟩
  isplitl [H0 H1 HY0 HY1]
  · isplitl [H0 HY0]
    · iapply (y_cut d (hp := 0) (mid := row0 L + n) (by omega) (by omega) _).2
      isplitl [H0]; · iexact H0
      iexact HY0
    · iapply (y_cut d (hp := 1) (mid := row0 L + n) (by omega) (by omega) _).2
      isplitl [H1]; · iexact H1
      iexact HY1
  isplitl [HO0]; · iexact HO0
  iexact HO1

/-- Slot `b` freed: its two waits, when there is something to wait for. -/
theorem free_spec {α : Type} {b : Fin 2} {sem : DmaSem sig} {t : ℕ} {O : CellTallies nD τ sig (HIx 1)} {s0 s1 : Memref sig .scVector .vmem S8x2x1024 .f32}
    {off off' : Fin 3 → ℕ} {h : ∀ a, off a + S8x2x1024.size a ≤ S16x1024x1024.size a} {h' : ∀ a, off' a + S8x2x1024.size a ≤ S16x1024x1024.size a}
    {hs : s0.view.WordExact} {hs' : s1.view.WordExact} {hd : (ySl off h).view.WordExact} {hd' : (ySl off' h').view.WordExact}
    (ht : t ≠ 0) (k : Pg (F := F) L α) (Q : α → sProp 𝕄) {n : ℕ} (hn : n = 4 * t - 4 + 2 * b.val) :
    iprop(Transfers.MayWaits (VT d L) (default : HIx 1) O ∗ OutSt d L T A b sem t ∗ Done d L T A n ∗ Ow d L O)
      ⊢ iprop((iprop(oAny d L b 0 ∗ oAny d L b 1 ∗ semVal (VT d L, SemLoc.dma sem) 0 ∗ Done d L T A (n + 2) ∗ Ow d L O)
            -∗ wp frame (wpE (defs₀ (F := F)) 𝒱₀ (VT d L) none) Set.univ k Q)
          -∗ wp frame (wpE (defs₀ (F := F)) 𝒱₀ (VT d L) none) Set.univ
              (Prog.lift (.waitDma2 sem s0 (ySl off h) hs hd) >>= fun _ => Prog.lift (.waitDma2 sem s1 (ySl off' h') hs' hd') >>= fun _ => k) Q) := by
  unfold OutSt
  rw [if_neg ht]
  iintro ⟨#Hmw, HG, HDn, HO⟩ Hk
  rw [wp_bind]
  ihave H := (sent_spec (src := s0) (h := h) (hs := hs) (hd := hd) d L T A) $$ [HG HO]
  · isplitr; · iexact Hmw
    isplitl [HG]; · iexact HG
    iexact HO
  iapply (wp_wand _ _ _) $$ H
  iintro %_ ⟨HG, HO⟩
  rw [wp_bind]
  ihave H := (sentAll_spec (src := s1) (h := h') (hs := hs') (hd := hd') d L T A) $$ [HG HO]
  · isplitr; · iexact Hmw
    isplitl [HG]; · iexact HG
    iexact HO
  iapply (wp_wand _ _ _) $$ H
  iintro %_ ⟨H0, H1, HS, HO⟩
  ihave H := (done_more d L T A (b := b) (n := n) (r0 := row0 L + 4 * (t - 1) + 2 * b.val) (by omega)) $$ [HDn H0 H1]
  · isplitl [HDn]; · iexact HDn
    isplitl [H0]; · iexact H0
    iexact H1
  icases H with ⟨HDn, H0, H1⟩
  iapply Hk
  isplitl [H0]; · iexact H0
  isplitl [H1]; · iexact H1
  isplitl [HS]; · iexact HS
  isplitl [HDn]; · iexact HDn
  iexact HO

/-- The same under the program's test. -/
theorem freeIf_spec {α : Type} {b : Fin 2} {sem : DmaSem sig} {t : ℕ} {O : CellTallies nD τ sig (HIx 1)} {s0 s1 : Memref sig .scVector .vmem S8x2x1024 .f32}
    {off off' : Fin 3 → ℕ} {h : ∀ a, off a + S8x2x1024.size a ≤ S16x1024x1024.size a} {h' : ∀ a, off' a + S8x2x1024.size a ≤ S16x1024x1024.size a}
    {hs : s0.view.WordExact} {hs' : s1.view.WordExact} {hd : (ySl off h).view.WordExact} {hd' : (ySl off' h').view.WordExact}
    {c : Prop} [Decidable c] (hc : c ↔ t ≠ 0) (k : Pg (F := F) L α) (Q : α → sProp 𝕄) {n m : ℕ}
    (hn : n = 4 * t - 4 + 2 * b.val ∨ n = 0 ∧ t = 0) (hm : m = n + 2 ∧ t ≠ 0 ∨ m = n ∧ t = 0) :
    iprop(Transfers.MayWaits (VT d L) (default : HIx 1) O ∗ OutSt d L T A b sem t ∗ Done d L T A n ∗ Ow d L O)
      ⊢ iprop((iprop(oAny d L b 0 ∗ oAny d L b 1 ∗ semVal (VT d L, SemLoc.dma sem) 0 ∗ Done d L T A m ∗ Ow d L O)
            -∗ wp frame (wpE (defs₀ (F := F)) 𝒱₀ (VT d L) none) Set.univ k Q)
          -∗ wp frame (wpE (defs₀ (F := F)) 𝒱₀ (VT d L) none) Set.univ
              (if _hh : c then Prog.lift (.waitDma2 sem s0 (ySl off h) hs hd) >>= fun _ => Prog.lift (.waitDma2 sem s1 (ySl off' h') hs' hd') >>= fun _ => k
                else k) Q) := by
  by_cases ht : t = 0
  · rw [dif_neg (fun h => (hc.1 h) ht)]
    obtain rfl : m = n := by omega
    unfold OutSt
    rw [if_pos ht]
    iintro ⟨#Hmw, ⟨H0, H1, HS⟩, HDn, HO⟩ Hk
    iapply Hk
    isplitl [H0]; · iexact H0
    isplitl [H1]; · iexact H1
    isplitl [HS]; · iexact HS
    isplitl [HDn]; · iexact HDn
    iexact HO
  · rw [dif_pos (hc.2 ht)]
    obtain rfl : m = n + 2 := by omega
    exact free_spec d L T A ht k Q (by omega)

/-- A filled half sent, then the rest. -/
theorem sendOn_spec {α : Type} {b : Fin 2} {sem : DmaSem sig} {off : Fin 3 → ℕ} {h : ∀ a, off a + S8x2x1024.size a ≤ S16x1024x1024.size a} (hp : Fin 2) {r0 : ℕ}
    (ho : off = ![8 * hp.val, r0, 0]) (hr : r0 + 2 ≤ row0 L + 32) (M : S16x1024x1024.Idx → Elt F .f32) (k : Pg (F := F) L α) (Q : α → sProp 𝕄) :
    iprop(oFull d L T A b hp r0 ∗ yPts d hp r0 (row0 L + 32) M ∗ Going d L T A b sem r0 hp.val 0)
      ⊢ iprop((iprop(yPts d hp (r0 + 2) (row0 L + 32) M ∗ Going d L T A b sem r0 (hp.val + 1) 0)
            -∗ wp frame (wpE (defs₀ (F := F)) 𝒱₀ (VT d L) none) Set.univ k Q)
          -∗ wp frame (wpE (defs₀ (F := F)) 𝒱₀ (VT d L) none) Set.univ
              (Prog.lift (.enqueueDma (oHalf b hp) (.here (ySl off h)) (.dma sem) ((View.wordExact_bits rfl).reshape _ _) (View.wordExact_bits rfl)
                ⟨Or.inl rfl, trivial⟩) >>= fun _ => k) Q) := by
  iintro ⟨⟨%g, %hg, HO⟩, HY, HG⟩ Hk
  ihave HY' := (y_cut d (hp := hp) (mid := r0 + 2) (by omega) hr M).1 $$ HY
  icases HY' with ⟨HY, HY'⟩
  rw [wp_bind]
  ihave H := (send_spec d L T A hp ho M hg) $$ [HO HY HG]
  · isplitl [HO]; · iexact HO
    isplitl [HY]; · iexact HY
    iexact HG
  iapply (wp_wand _ _ _) $$ H
  iintro %_ HG
  iapply Hk
  isplitl [HY']; · iexact HY'
  iexact HG

/-- The next rows of slot `b` fetched if the program says so, then the rest. -/
theorem fetchIf_spec {α : Type} {b : Fin 2} {sem : DmaSem sig} {t r : ℕ} {off : Fin 2 → ℕ} {c : Prop} [Decidable c]
    {h : c → ∀ a, off a + S2x1024.size a ≤ S1024x1024.size a} (ht : t < 8) (hc : c ↔ t < 7) (hr : r = row0 L + 4 * (t + 1) + 2 * b.val)
    (ho : off = ![r, 0]) (fd : S2x2x1024.Idx → BitVec 32) (k : Pg (F := F) L α) (Q : α → sProp 𝕄) :
    iprop(aPts d A r (row0 L + 32) ∗ dPts (F := F) d L b fd ∗ semVal (VT d L, SemLoc.dma sem) 0)
      ⊢ iprop((iprop(aPts d A (r + 2) (row0 L + 32) ∗ InSt (F := F) d L A b sem (t + 1))
            -∗ wp frame (wpE (defs₀ (F := F)) 𝒱₀ (VT d L) none) Set.univ k Q)
          -∗ wp frame (wpE (defs₀ (F := F)) 𝒱₀ (VT d L) none) Set.univ
              (if hh : c then Prog.lift (.enqueueDma (aSl off (h hh)) (.here (dHalf b)) (.dma sem) (View.wordExact_bits rfl) ((View.wordExact_bits rfl).reshape _ _)
                  ⟨Or.inl rfl, trivial⟩) >>= fun _ => k else k) Q) := by
  have hb := b.isLt
  by_cases h7 : t < 7
  · rw [dif_pos (hc.2 h7)]
    iintro ⟨HA, HD, HS⟩ Hk
    ihave HA' := (a_cut d (lo := r) (mid := r + 2) (hi := row0 L + 32) (by omega) (by omega) A).1 $$ HA
    icases HA' with ⟨HA, HA'⟩
    rw [wp_bind]
    ihave H := (fetch_spec (sem := sem) (h := h (hc.2 h7)) d L A ho fd) $$ [HA HD HS]
    · isplitl [HA]; · iexact HA
      isplitl [HD]; · iexact HD
      iexact HS
    iapply (wp_wand _ _ _) $$ H
    iintro %_ HC
    iapply Hk
    isplitl [HA']; · iexact HA'
    unfold InSt
    rw [if_pos (by omega), ← hr]
    iexact HC
  · rw [dif_neg (fun h => h7 (hc.1 h))]
    iintro ⟨HA, HD, HS⟩ Hk
    iapply Hk
    isplitl [HA]
    · iapply (Entails.of_eq ((a_none d (lo := r) (hi := row0 L + 32) (by omega) A).trans (a_none d (lo := r + 2) (hi := row0 L + 32) (by omega) A).symm))
      iexact HA
    unfold InSt
    rw [if_neg (by omega)]
    isplitl [HD]; · iexists fd; iexact HD
    iexact HS

/-- Two rows awaited, then the rest. -/
theorem fetchedOn_spec {α : Type} {b : Fin 2} {sem : DmaSem sig} {r0 : ℕ} {O : CellTallies nD τ sig (HIx 1)} {src : Memref sig .scVector .hbm S2x1024 .i32}
    {hs : src.view.WordExact} {hd : (dHalf b).view.WordExact} (hr : row0 L ≤ r0) (k : Pg (F := F) L α) (Q : α → sProp 𝕄) :
    iprop(Transfers.MayWaits (VT d L) (default : HIx 1) O ∗ Coming (F := F) d L A b sem r0 ∗ aPts d A (row0 L) r0 ∗ Ow d L O)
      ⊢ iprop((iprop(dPts (F := F) d L b (near A r0) ∗ aPts d A (row0 L) (r0 + 2) ∗ semVal (VT d L, SemLoc.dma sem) 0 ∗ Ow d L O)
            -∗ wp frame (wpE (defs₀ (F := F)) 𝒱₀ (VT d L) none) Set.univ k Q)
          -∗ wp frame (wpE (defs₀ (F := F)) 𝒱₀ (VT d L) none) Set.univ (Prog.lift (.waitDma2 sem src (dHalf b) hs hd) >>= fun _ => k) Q) := by
  iintro ⟨#Hmw, HC, HA, HO⟩ Hk
  rw [wp_bind]
  ihave H := (fetched_spec (src := src) (hs := hs) (hd := hd) d L A) $$ [HC HO]
  · isplitr; · iexact Hmw
    isplitl [HC]; · iexact HC
    iexact HO
  iapply (wp_wand _ _ _) $$ H
  iintro %_ ⟨HD, HA', HS, HO⟩
  iapply Hk
  isplitl [HD]; · iexact HD
  isplitl [HA HA']
  · iapply (a_cut d (lo := row0 L) (mid := r0) (hi := r0 + 2) hr (by omega) A).2
    isplitl [HA]; · iexact HA
    iexact HA'
  isplitl [HS]; · iexact HS
  iexact HO

end Stages

end Cert.Proof.Bias
-- ==== Proof.Steps.lean ====
/-
  The three parts of a trip of the outer loop, and the trip.
-/
module

public import proofs.«01_k».proof.Proof.Stages

@[expose] public section

noncomputable section

namespace Cert.Proof.Bias

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "aV" => (Memref.whole Cert.KernelIdeal.main_arg0_scv : Memref Cert.KernelIdeal.sig Kind.scVector Space.hbm Cert.KernelIdeal.S1024x1024 EltTy.i32)
local notation "uV" => (Memref.whole Cert.KernelIdeal.main_v0_scv : Memref Cert.KernelIdeal.sig Kind.scVector Space.hbm Cert.KernelIdeal.S16x32 EltTy.f32)
local notation "yV" => (Memref.whole Cert.KernelIdeal.main_v1_scv : Memref Cert.KernelIdeal.sig Kind.scVector Space.hbm Cert.KernelIdeal.S16x1024x1024 EltTy.f32)
local notation "tV" => (Memref.whole Cert.KernelIdeal.cc0_scratch0 : Memref Cert.KernelIdeal.sig Kind.scVector Space.vmem Cert.KernelIdeal.S16x32 EltTy.f32)
local notation "dV" => (Memref.whole Cert.KernelIdeal.cc0_scratch1 : Memref Cert.KernelIdeal.sig Kind.scVector Space.vmem Cert.KernelIdeal.S2x2x1024 EltTy.i32)
local notation "oV" => (Memref.whole Cert.KernelIdeal.cc0_scratch2 : Memref Cert.KernelIdeal.sig Kind.scVector Space.vmem Cert.KernelIdeal.S2x16x2x1024 EltTy.f32)

section Steps

variable [FloatOps F] (d : Dev nD) (L : grid0.Coords) (T : S16x32.Idx → Elt F .f32) (A : S1024x1024.Idx → BitVec 32)
variable (h2 : (aV).IsWhole) (h3 : (uV).IsWhole) (h4 : (yV).IsWhole) (h5 : (tV).IsWhole) (h6 : (dV).IsWhole) (h7 : (oV).IsWhole)
  (a8 a9 a10 a11 a12 : DmaSems sig S_) (v2 : BitVec 32) (M : S16x1024x1024.Idx → Elt F .f32)

/-! ## What the program's tests say -/

theorem wait0_iff : ∀ t : Fin k0_t1_loop.trips,
    Scalar.cmpi .ne (Scalar.extui (Scalar.cmpi .sge (Scalar.addi (Scalar.muli 2#32 (Scf.iv 0#32 1#32 t)) 0#32) 2#32) : BitVec 32) 0#32 = 1#1 ↔ t.val ≠ 0 := by
  decide +kernel
theorem wait1_iff : ∀ t : Fin k0_t1_loop.trips,
    Scalar.cmpi .ne (Scalar.extui (Scalar.cmpi .sge (Scalar.addi (Scalar.muli 2#32 (Scf.iv 0#32 1#32 t)) 1#32) 2#32) : BitVec 32) 0#32 = 1#1 ↔ t.val ≠ 0 := by
  decide +kernel
theorem next0_iff : ∀ t : Fin k0_t1_loop.trips, k0_cond2 t = 1#1 ↔ t.val < 7 := by decide +kernel
theorem next1_iff : ∀ t : Fin k0_t1_loop.trips, k0_cond4 t = 1#1 ↔ t.val < 7 := by decide +kernel
theorem trips_eq : k0_t1_loop.trips = 8 := by decide +kernel

theorem offA (i : grid0.Coords) (t : Fin k0_t1_loop.trips) : k0_off20 i t 0#32 = ![8 * (0 : Fin 2).val, row0 i + 4 * t.val, 0] := k0_off20_eq i t 0
theorem offB (i : grid0.Coords) (t : Fin k0_t1_loop.trips) : k0_off39 i t 0#32 = ![8 * (1 : Fin 2).val, row0 i + 4 * t.val, 0] := k0_off39_eq i t 0
theorem offC (i : grid0.Coords) (t : Fin k0_t1_loop.trips) : k0_off20 i t 1#32 = ![8 * (0 : Fin 2).val, row0 i + 4 * t.val + 2, 0] := k0_off20_eq i t 1
theorem offD (i : grid0.Coords) (t : Fin k0_t1_loop.trips) : k0_off39 i t 1#32 = ![8 * (1 : Fin 2).val, row0 i + 4 * t.val + 2, 0] := k0_off39_eq i t 1

/-! ## Slot 0's rows awaited, the slot freed, its first half filled -/

set_option maxRecDepth 65536 in
theorem part17_spec (t : Fin k0_t1_loop.trips) {O : CellTallies nD τ sig (HIx 1)} :
    iprop(Transfers.MayWaits (VT d L) (default : HIx 1) O ∗ tPts d L T ∗ Coming (F := F) d L A 0 a8.sem (row0 L + 4 * t.val) ∗ aPts d A (row0 L) (row0 L + 4 * t.val)
        ∗ OutSt d L T A 0 a10.sem t.val ∗ Done d L T A (4 * t.val - 4) ∗ Ow d L O)
      ⊢ wp frame (wpE (defs₀ (F := F)) 𝒱₀ (VT d L) none) Set.univ
          (k0_part17 (F := F) L (aV) h2 (uV) h3 (yV) h4 (tV) h5 (dV) h6 (oV) h7 a8 a9 a10 a11 a12 v2 0#32 1#32 t)
          fun r => iprop(⌜r = ⟨Scf.iv 0#32 1#32 t, Scalar.addi (Scalar.muli 2#32 (Scf.iv 0#32 1#32 t)) 0#32⟩⌝
            ∗ tPts d L T ∗ dPts (F := F) d L 0 (near A (row0 L + 4 * t.val)) ∗ semVal (VT d L, SemLoc.dma a8.sem) 0
            ∗ aPts d A (row0 L) (row0 L + 4 * t.val + 2)
            ∗ oFull d L T A 0 0 (row0 L + 4 * t.val) ∗ oAny d L 0 1 ∗ semVal (VT d L, SemLoc.dma a10.sem) 0
            ∗ Done d L T A (4 * t.val - 2) ∗ Ow d L O) := by
  rw [k0_part17_eq_skeleton]
  unfold k0_part17_skel
  dsimp only []
  iintro ⟨#Hmw, HT, HC, HA, HOu, HDn, HO⟩
  iapply (fetchedOn_spec (b := 0) (r0 := row0 L + 4 * t.val) d L A (by omega) _ _) $$ [HC HA HO]
  · isplitr; · iexact Hmw
    isplitl [HC]; · iexact HC
    isplitl [HA]; · iexact HA
    iexact HO
  iintro ⟨HD, HA, HS, HO⟩
  iapply (freeIf_spec (b := 0) (t := t.val) (n := 4 * t.val - 4) (m := 4 * t.val - 2) d L T A (wait0_iff t) _ _ (by simp) (by omega)) $$ [HOu HDn HO]
  · isplitr; · iexact Hmw
    isplitl [HOu]; · iexact HOu
    isplitl [HDn]; · iexact HDn
    iexact HO
  iintro ⟨HO0, HO1, HS', HDn, HO⟩
  iapply (fill_spec (b := 0) (hp := 0) (r0 := row0 L + 4 * t.val) d L T A _ _ _ _ (loop2_spec d L _ h2 _ h3 _ h4 h5 h6 h7 a8 a9 a10 a11 a12 v2 _ _ t)
    (loop3_spec d L _ h2 _ h3 _ h4 h5 h6 h7 a8 a9 a10 a11 a12 v2 _ _ t)) $$ [HT HD HO0]
  · isplitl [HT]; · iexact HT
    isplitl [HD]; · iexact HD
    iexact HO0
  iintro ⟨HT, HD, HO0⟩
  rw [wp_pure]; imodintro
  isplitr; · ipureintro; rfl
  isplitl [HT]; · iexact HT
  isplitl [HD]; · iexact HD
  isplitl [HS]; · iexact HS
  isplitl [HA]; · iexact HA
  isplitl [HO0]; · iexact HO0
  isplitl [HO1]; · iexact HO1
  isplitl [HS']; · iexact HS'
  isplitl [HDn]; · iexact HDn
  iexact HO

/-! ## Slot 0's first half sent, the second filled and sent, the slot's next rows fetched -/

set_option maxRecDepth 65536 in
theorem part18_spec (t : Fin k0_t1_loop.trips) (arg12 v43 : BitVec 32) :
    iprop(tPts d L T ∗ dPts (F := F) d L 0 (near A (row0 L + 4 * t.val)) ∗ semVal (VT d L, SemLoc.dma a8.sem) 0
        ∗ oFull d L T A 0 0 (row0 L + 4 * t.val) ∗ oAny d L 0 1 ∗ semVal (VT d L, SemLoc.dma a10.sem) 0
        ∗ yPts d 0 (row0 L + 4 * t.val) (row0 L + 32) M ∗ yPts d 1 (row0 L + 4 * t.val) (row0 L + 32) M
        ∗ aPts d A (row0 L + 4 * t.val + 4) (row0 L + 32))
      ⊢ wp frame (wpE (defs₀ (F := F)) 𝒱₀ (VT d L) none) Set.univ
          (k0_part18 (F := F) L (aV) h2 (uV) h3 (yV) h4 (tV) h5 (dV) h6 (oV) h7 a8 a9 a10 a11 a12 v2 t arg12 v43)
          fun r => iprop(⌜r = Scalar.addi (Scalar.muli 2#32 arg12) 1#32⌝
            ∗ tPts d L T ∗ InSt (F := F) d L A 0 a8.sem (t.val + 1) ∗ Going d L T A 0 a10.sem (row0 L + 4 * t.val) 2 0
            ∗ yPts d 0 (row0 L + 4 * t.val + 2) (row0 L + 32) M ∗ yPts d 1 (row0 L + 4 * t.val + 2) (row0 L + 32) M
            ∗ aPts d A (row0 L + 4 * t.val + 4 + 2) (row0 L + 32)) := by
  have ht : t.val < 8 := trips_eq ▸ t.isLt
  rw [k0_part18_eq_skeleton]
  unfold k0_part18_skel
  dsimp only []
  iintro ⟨HT, HD, HS, HO0, HO1, HS', HY0, HY1, HA⟩
  imod (going_start d L T A (b := 0) (row0 L + 4 * t.val)) $$ HS' with HG
  iapply (sendOn_spec (b := 0) (r0 := row0 L + 4 * t.val) d L T A 0 (offA L t) (by omega) M _ _) $$ [HO0 HY0 HG]
  · isplitl [HO0]; · iexact HO0
    isplitl [HY0]; · iexact HY0
    iexact HG
  iintro ⟨HY0, HG⟩
  iapply (fill_spec (b := 0) (hp := 1) (r0 := row0 L + 4 * t.val) d L T A _ _ _ _ (loop4_spec d L _ h2 _ h3 _ h4 h5 h6 h7 a8 a9 a10 a11 a12 v2 t _ _)
    (loop5_spec d L _ h2 _ h3 _ h4 h5 h6 h7 a8 a9 a10 a11 a12 v2 t _ _)) $$ [HT HD HO1]
  · isplitl [HT]; · iexact HT
    isplitl [HD]; · iexact HD
    iexact HO1
  iintro ⟨HT, HD, HO1⟩
  iapply (sendOn_spec (b := 0) (r0 := row0 L + 4 * t.val) d L T A 1 (offB L t) (by omega) M _ _) $$ [HO1 HY1 HG]
  · isplitl [HO1]; · iexact HO1
    isplitl [HY1]; · iexact HY1
    iexact HG
  iintro ⟨HY1, HG⟩
  iapply (fetchIf_spec (b := 0) (r := row0 L + 4 * t.val + 4) d L A ht (next0_iff t) (by simp; omega) (k0_off40_eq L t) _ _ _) $$ [HA HD HS]
  · isplitl [HA]; · iexact HA
    isplitl [HD]; · iexact HD
    iexact HS
  iintro ⟨HA, HI⟩
  rw [wp_pure]; imodintro
  isplitr; · ipureintro; rfl
  isplitl [HT]; · iexact HT
  isplitl [HI]; · iexact HI
  isplitl [HG]; · iexact HG
  isplitl [HY0]; · iexact HY0
  isplitl [HY1]; · iexact HY1
  iexact HA

/-! ## Slot 1 -/

set_option maxRecDepth 65536 in
theorem part19_spec (t : Fin k0_t1_loop.trips) {O : CellTallies nD τ sig (HIx 1)} :
    iprop(Transfers.MayWaits (VT d L) (default : HIx 1) O ∗ tPts d L T ∗ Coming (F := F) d L A 1 a9.sem (row0 L + 4 * t.val + 2)
        ∗ aPts d A (row0 L) (row0 L + 4 * t.val + 2) ∗ OutSt d L T A 1 a11.sem t.val ∗ Done d L T A (4 * t.val - 2)
        ∗ yPts d 0 (row0 L + 4 * t.val + 2) (row0 L + 32) M ∗ Ow d L O)
      ⊢ wp frame (wpE (defs₀ (F := F)) 𝒱₀ (VT d L) none) Set.univ
          (k0_part19 (F := F) L (aV) h2 (uV) h3 (yV) h4 (tV) h5 (dV) h6 (oV) h7 a8 a9 a10 a11 a12 v2 t (Scalar.addi (Scalar.muli 2#32 (Scf.iv 0#32 1#32 t)) 1#32))
          fun _ => iprop(tPts d L T ∗ dPts (F := F) d L 1 (near A (row0 L + 4 * t.val + 2)) ∗ semVal (VT d L, SemLoc.dma a9.sem) 0
            ∗ aPts d A (row0 L) (row0 L + 4 * t.val + 2 + 2) ∗ Going d L T A 1 a11.sem (row0 L + 4 * t.val + 2) 1 0
            ∗ oFull d L T A 1 1 (row0 L + 4 * t.val + 2) ∗ Done d L T A (4 * t.val)
            ∗ yPts d 0 (row0 L + 4 * t.val + 2 + 2) (row0 L + 32) M ∗ Ow d L O) := by
  have ht : t.val < 8 := trips_eq ▸ t.isLt
  rw [k0_part19_eq_skeleton]
  unfold k0_part19_skel
  dsimp only []
  iintro ⟨#Hmw, HT, HC, HA, HOu, HDn, HY0, HO⟩
  iapply (fetchedOn_spec (b := 1) (r0 := row0 L + 4 * t.val + 2) d L A (by omega) _ _) $$ [HC HA HO]
  · isplitr; · iexact Hmw
    isplitl [HC]; · iexact HC
    isplitl [HA]; · iexact HA
    iexact HO
  iintro ⟨HD, HA, HS, HO⟩
  iapply (freeIf_spec (b := 1) (t := t.val) (n := 4 * t.val - 2) (m := 4 * t.val) d L T A (wait1_iff t) _ _ (by simp; omega) (by omega)) $$ [HOu HDn HO]
  · isplitr; · iexact Hmw
    isplitl [HOu]; · iexact HOu
    isplitl [HDn]; · iexact HDn
    iexact HO
  iintro ⟨HO0, HO1, HS', HDn, HO⟩
  iapply (fill_spec (b := 1) (hp := 0) (r0 := row0 L + 4 * t.val + 2) d L T A _ _ _ _ (loop6_spec d L _ h2 _ h3 _ h4 h5 h6 h7 a8 a9 a10 a11 a12 v2 t _)
    (loop7_spec d L _ h2 _ h3 _ h4 h5 h6 h7 a8 a9 a10 a11 a12 v2 t _)) $$ [HT HD HO0]
  · isplitl [HT]; · iexact HT
    isplitl [HD]; · iexact HD
    iexact HO0
  iintro ⟨HT, HD, HO0⟩
  imod (going_start d L T A (b := 1) (row0 L + 4 * t.val + 2)) $$ HS' with HG
  iapply (sendOn_spec (b := 1) (r0 := row0 L + 4 * t.val + 2) d L T A 0 (offC L t) (by omega) M _ _) $$ [HO0 HY0 HG]
  · isplitl [HO0]; · iexact HO0
    isplitl [HY0]; · iexact HY0
    iexact HG
  iintro ⟨HY0, HG⟩
  iapply (fill_spec (b := 1) (hp := 1) (r0 := row0 L + 4 * t.val + 2) d L T A _ _ _ _ (loop8_spec d L _ h2 _ h3 _ h4 h5 h6 h7 a8 a9 a10 a11 a12 v2 t _)
    (loop9_spec d L _ h2 _ h3 _ h4 h5 h6 h7 a8 a9 a10 a11 a12 v2 t _)) $$ [HT HD HO1]
  · isplitl [HT]; · iexact HT
    isplitl [HD]; · iexact HD
    iexact HO1
  iintro ⟨HT, HD, HO1⟩
  rw [wp_pure]; imodintro
  isplitl [HT]; · iexact HT
  isplitl [HD]; · iexact HD
  isplitl [HS]; · iexact HS
  isplitl [HA]; · iexact HA
  isplitl [HG]; · iexact HG
  isplitl [HO1]; · iexact HO1
  isplitl [HDn]; · iexact HDn
  isplitl [HY0]; · iexact HY0
  iexact HO

/-! ## A trip -/

/-- What a tile holds before trip `t`. -/
def Inv (s8 s9 s10 s11 : DmaSem sig) (O : CellTallies nD τ sig (HIx 1)) (t : ℕ) : sProp 𝕄 :=
  iprop(tPts d L T ∗ InSt (F := F) d L A 0 s8 t ∗ InSt (F := F) d L A 1 s9 t ∗ aPts d A (row0 L) (row0 L + 4 * t) ∗ aPts d A (row0 L + 4 * t + 4) (row0 L + 32)
    ∗ OutSt d L T A 0 s10 t ∗ OutSt d L T A 1 s11 t ∗ Done d L T A (4 * t - 4)
    ∗ yPts d 0 (row0 L + 4 * t) (row0 L + 32) M ∗ yPts d 1 (row0 L + 4 * t) (row0 L + 32) M ∗ Ow d L O)

theorem inSt_mid {b : Fin 2} {sem : DmaSem sig} {t r : ℕ} (ht : t < 8) (hr : r = row0 L + 4 * t + 2 * b.val) :
    (InSt (F := F) d L A b sem t : sProp 𝕄) = Coming d L A b sem r := by
  unfold InSt; rw [if_pos ht, hr]
theorem outSt_next {b : Fin 2} {sem : DmaSem sig} {t r : ℕ} (hr : r = row0 L + 4 * t + 2 * b.val) :
    (Going d L T A b sem r 2 0 : sProp 𝕄) = OutSt d L T A b sem (t + 1) := by
  unfold OutSt; rw [if_neg (Nat.succ_ne_zero t), Nat.add_sub_cancel, hr]

set_option maxRecDepth 65536 in
theorem outer_spec (t : Fin k0_t1_loop.trips) {O : CellTallies nD τ sig (HIx 1)} :
    iprop(Transfers.MayWaits (VT d L) (default : HIx 1) O ∗ Inv d L T A M a8.sem a9.sem a10.sem a11.sem O t.val)
      ⊢ wp frame (wpE (defs₀ (F := F)) 𝒱₀ (VT d L) none) Set.univ
          (k0_t1_body (F := F) L (aV) h2 (uV) h3 (yV) h4 (tV) h5 (dV) h6 (oV) h7 a8 a9 a10 a11 a12 v2 t ⟨⟩)
          fun _ => Inv d L T A M a8.sem a9.sem a10.sem a11.sem O (t.val + 1) := by
  have ht : t.val < 8 := trips_eq ▸ t.isLt
  unfold k0_t1_body Inv
  dsimp only []
  rw [inSt_mid d L A (b := 0) (r := row0 L + 4 * t.val) ht (by simp), inSt_mid d L A (b := 1) (r := row0 L + 4 * t.val + 2) ht (by simp)]
  iintro ⟨#Hmw, HT, HC0, HC1, HA, HA', HOu0, HOu1, HDn, HY0, HY1, HO⟩
  rw [wp_bind]
  ihave H := (part17_spec d L T A h2 h3 h4 h5 h6 h7 a8 a9 a10 a11 a12 v2 t) $$ [HT HC0 HA HOu0 HDn HO]
  · isplitr; · iexact Hmw
    isplitl [HT]; · iexact HT
    isplitl [HC0]; · iexact HC0
    isplitl [HA]; · iexact HA
    isplitl [HOu0]; · iexact HOu0
    isplitl [HDn]; · iexact HDn
    iexact HO
  iapply (wp_wand _ _ _) $$ H
  iintro %r ⟨%hr, HT, HD, HS, HA, HO0, HO1, HS', HDn, HO⟩
  subst hr
  dsimp only []
  rw [wp_bind]
  ihave H := (part18_spec d L T A h2 h3 h4 h5 h6 h7 a8 a9 a10 a11 a12 v2 M t _ _) $$ [HT HD HS HO0 HO1 HS' HY0 HY1 HA']
  · isplitl [HT]; · iexact HT
    isplitl [HD]; · iexact HD
    isplitl [HS]; · iexact HS
    isplitl [HO0]; · iexact HO0
    isplitl [HO1]; · iexact HO1
    isplitl [HS']; · iexact HS'
    isplitl [HY0]; · iexact HY0
    isplitl [HY1]; · iexact HY1
    iexact HA'
  iapply (wp_wand _ _ _) $$ H
  iintro %r ⟨%hr, HT, HI0, HG0, HY0, HY1, HA'⟩
  subst hr
  rw [wp_bind]
  ihave H := (part19_spec d L T A h2 h3 h4 h5 h6 h7 a8 a9 a10 a11 a12 v2 M t) $$ [HT HC1 HA HOu1 HDn HY0 HO]
  · isplitr; · iexact Hmw
    isplitl [HT]; · iexact HT
    isplitl [HC1]; · iexact HC1
    isplitl [HA]; · iexact HA
    isplitl [HOu1]; · iexact HOu1
    isplitl [HDn]; · iexact HDn
    isplitl [HY0]; · iexact HY0
    iexact HO
  iapply (wp_wand _ _ _) $$ H
  iintro %_ ⟨HT, HD, HS, HA, HG1, HO1, HDn, HY0, HO⟩
  iapply (sendOn_spec (b := 1) (r0 := row0 L + 4 * t.val + 2) d L T A 1 (offD L t) (by omega) M _ _) $$ [HO1 HY1 HG1]
  · isplitl [HO1]; · iexact HO1
    isplitl [HY1]; · iexact HY1
    iexact HG1
  iintro ⟨HY1, HG1⟩
  iapply (fetchIf_spec (b := 1) (r := row0 L + 4 * t.val + 4 + 2) d L A ht (next1_iff t) (by simp; omega) (k0_off77_eq L t) _ _ _) $$ [HA' HD HS]
  · isplitl [HA']; · iexact HA'
    isplitl [HD]; · iexact HD
    iexact HS
  iintro ⟨HA', HI1⟩
  rw [wp_pure]; imodintro
  rw [← outSt_next d L T A (b := 0) (t := t.val) (r := row0 L + 4 * t.val) (by simp), ← outSt_next d L T A (b := 1) (t := t.val) (r := row0 L + 4 * t.val + 2) (by simp),
    show row0 L + 4 * (t.val + 1) = row0 L + 4 * t.val + 2 + 2 by omega, show 4 * (t.val + 1) - 4 = 4 * t.val by omega,
    show row0 L + 4 * t.val + 2 + 2 + 4 = row0 L + 4 * t.val + 4 + 2 + 2 by omega]
  isplitl [HT]; · iexact HT
  isplitl [HI0]; · iexact HI0
  isplitl [HI1]; · iexact HI1
  isplitl [HA]; · iexact HA
  isplitl [HA']; · iexact HA'
  isplitl [HG0]; · iexact HG0
  isplitl [HG1]; · iexact HG1
  isplitl [HDn]; · iexact HDn
  isplitl [HY0]; · iexact HY0
  isplitl [HY1]; · iexact HY1
  iexact HO

end Steps

end Cert.Proof.Bias
-- ==== Proof.Body.lean ====
/-
  The kernel's body on a tile: the table and the first rows fetched, the eight trips, the last waits.
-/
module

public import proofs.«01_k».proof.Proof.Steps

@[expose] public section

noncomputable section

namespace Cert.Proof.Bias

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "aV" => (Memref.whole Cert.KernelIdeal.main_arg0_scv : Memref Cert.KernelIdeal.sig Kind.scVector Space.hbm Cert.KernelIdeal.S1024x1024 EltTy.i32)
local notation "uV" => (Memref.whole Cert.KernelIdeal.main_v0_scv : Memref Cert.KernelIdeal.sig Kind.scVector Space.hbm Cert.KernelIdeal.S16x32 EltTy.f32)
local notation "yV" => (Memref.whole Cert.KernelIdeal.main_v1_scv : Memref Cert.KernelIdeal.sig Kind.scVector Space.hbm Cert.KernelIdeal.S16x1024x1024 EltTy.f32)
local notation "tV" => (Memref.whole Cert.KernelIdeal.cc0_scratch0 : Memref Cert.KernelIdeal.sig Kind.scVector Space.vmem Cert.KernelIdeal.S16x32 EltTy.f32)
local notation "dV" => (Memref.whole Cert.KernelIdeal.cc0_scratch1 : Memref Cert.KernelIdeal.sig Kind.scVector Space.vmem Cert.KernelIdeal.S2x2x1024 EltTy.i32)
local notation "oV" => (Memref.whole Cert.KernelIdeal.cc0_scratch2 : Memref Cert.KernelIdeal.sig Kind.scVector Space.vmem Cert.KernelIdeal.S2x16x2x1024 EltTy.f32)

section Body

variable [FloatOps F] (d : Dev nD) (L : grid0.Coords) (U : S16x32.Idx → Elt F .f32) (A : S1024x1024.Idx → BitVec 32)
variable (h2 : (aV).IsWhole) (h3 : (uV).IsWhole) (h4 : (yV).IsWhole) (h5 : (tV).IsWhole) (h6 : (dV).IsWhole) (h7 : (oV).IsWhole)
  (a8 a9 a10 a11 a12 : DmaSems sig S_) (v2 : BitVec 32) (M : S16x1024x1024.Idx → Elt F .f32) (q : PosShare TreeShare)

/-- The transposed table, at share `q`. -/
abbrev uPts : sProp 𝕄 := iprop(uLoc d ↦{q} U)

/-! ## The buffers whole and in pieces -/

theorem dSets_apart : Disjoint (dSet 0) (dSet 1) := Finset.disjoint_left.mpr fun x hx hx' => by
  rw [mem_dSet] at hx hx'; exact absurd (hx.symm.trans hx') (by decide)
theorem dSets_all : dSet 0 ∪ dSet 1 = Finset.univ := Finset.eq_univ_of_forall fun x => by
  have h : (x 0).val < 2 := (x 0).isLt
  rw [Finset.mem_union, mem_dSet, mem_dSet]
  show (x 0).val = 0 ∨ (x 0).val = 1; omega
theorem oHalves_apart (b : Fin 2) : Disjoint (oSet b 0) (oSet b 1) := Finset.disjoint_left.mpr fun x hx hx' => by
  rw [mem_oSet] at hx hx'
  have h1 : (x 1).val < 8 * 0 + 8 := hx.2.2
  have h2 : 8 * 1 ≤ (x 1).val := hx'.2.1
  omega
theorem oSlots_apart : Disjoint (oSet 0 0 ∪ oSet 0 1) (oSet 1 0 ∪ oSet 1 1) := Finset.disjoint_left.mpr fun x hx hx' => by
  simp only [Finset.mem_union, mem_oSet] at hx hx'
  have h : (x 0).val = 0 := hx.elim And.left And.left
  have h' : (x 0).val = 1 := hx'.elim And.left And.left
  omega
theorem oSets_all : (oSet 0 0 ∪ oSet 0 1) ∪ (oSet 1 0 ∪ oSet 1 1) = Finset.univ := Finset.eq_univ_of_forall fun x => by
  have h : (x 0).val < 2 := (x 0).isLt
  have h' : (x 1).val < 16 := (x 1).isLt
  simp only [Finset.mem_union, mem_oSet, Fin.val_zero, Fin.val_one]
  omega

theorem d_pieces (f : S2x2x1024.Idx → BitVec 32) : (((VT d L).loc cc0_scratch1 ↦{fullShare} f) : sProp 𝕄) ⊢ iprop(dPts (F := F) d L 0 f ∗ dPts (F := F) d L 1 f) := by
  rw [← dSets_all]; exact (pointsTo_union dSets_apart).1
theorem o_pieces (f : S2x16x2x1024.Idx → Elt F .f32) : (((VT d L).loc cc0_scratch2 ↦{fullShare} f) : sProp 𝕄)
    ⊢ iprop((oPts d L 0 0 f ∗ oPts d L 0 1 f) ∗ (oPts d L 1 0 f ∗ oPts d L 1 1 f)) := by
  rw [← oSets_all]
  iintro H
  ihave H' := (pointsTo_union oSlots_apart).1 $$ H
  icases H' with ⟨H0, H1⟩
  isplitl [H0]; · iapply (pointsTo_union (oHalves_apart 0)).1 $$ H0
  iapply (pointsTo_union (oHalves_apart 1)).1 $$ H1
theorem d_whole : iprop((∃ f, dPts (F := F) d L 0 f) ∗ (∃ f, dPts (F := F) d L 1 f)) ⊢ (iprop(∃ f, (VT d L).loc cc0_scratch1 ↦{fullShare} f) : sProp 𝕄) := by
  iintro ⟨⟨%f, HF⟩, ⟨%g, HG⟩⟩
  iexists ((dSet 1).piecewise g f)
  rw [← dSets_all]
  iapply (pointsTo_join dSets_apart)
  isplitl [HF]; · iexact HF
  iexact HG
theorem o_whole : iprop((oAny (F := F) d L 0 0 ∗ oAny d L 0 1) ∗ (oAny d L 1 0 ∗ oAny d L 1 1)) ⊢ (iprop(∃ f, (VT d L).loc cc0_scratch2 ↦{fullShare} f) : sProp 𝕄) := by
  iintro ⟨⟨⟨%f0, H0⟩, ⟨%f1, H1⟩⟩, ⟨⟨%f2, H2⟩, ⟨%f3, H3⟩⟩⟩
  ihave HA := (pointsTo_join (ℓ := (VT d L).loc cc0_scratch2) (I := oSet 0 0) (J := oSet 0 1) (oHalves_apart 0)) $$ [H0 H1]
  · isplitl [H0]; · iexact H0
    iexact H1
  ihave HB := (pointsTo_join (ℓ := (VT d L).loc cc0_scratch2) (I := oSet 1 0) (J := oSet 1 1) (oHalves_apart 1)) $$ [H2 H3]
  · isplitl [H2]; · iexact H2
    iexact H3
  iexists ((oSet 1 0 ∪ oSet 1 1).piecewise ((oSet 1 1).piecewise f3 f2) ((oSet 0 1).piecewise f1 f0))
  rw [← oSets_all]
  iapply (pointsTo_join oSlots_apart)
  isplitl [HA]; · iexact HA
  iexact HB

/-! ## The table and the first rows -/

theorem table_spec {α : Type} {sem : DmaSem sig} {O : CellTallies nD τ sig (HIx 1)} {hs hs' : (uV).view.WordExact} {hd hd' : (tV).view.WordExact}
    (f : S16x32.Idx → Elt F .f32) (k : Pg (F := F) L α) (Q : α → sProp 𝕄) :
    iprop(Transfers.MayWaits (VT d L) (default : HIx 1) O ∗ uPts d U q ∗ tPts d L f ∗ semVal (VT d L, SemLoc.dma sem) 0 ∗ Ow d L O)
      ⊢ iprop((iprop(uPts d U q ∗ tPts d L U ∗ semVal (VT d L, SemLoc.dma sem) 0 ∗ Ow d L O) -∗ wp frame (wpE (defs₀ (F := F)) 𝒱₀ (VT d L) none) Set.univ k Q)
          -∗ wp frame (wpE (defs₀ (F := F)) 𝒱₀ (VT d L) none) Set.univ
              (Prog.lift (.enqueueDma (uV) (.here (tV)) (.dma sem) hs hd ⟨Or.inl rfl, trivial⟩) >>= fun _ => Prog.lift (.waitDma2 sem (uV) (tV) hs' hd') >>= fun _ => k) Q) := by
  iintro ⟨#Hmw, HU, HT, HS, ⟨%W, HO⟩⟩ Hk
  ihave HU' := (show (uPts d U q : sProp 𝕄) ⊢ ((uV).view.loc (VT d L) ↦[(uV).view.set]{q} U) from Entails.of_eq (by rw [View.set_whole])) $$ HU
  iapply (Transfers.wp_dmaLocal countersEmb 𝒱₀ (VT d L) none (src := uV) (dst := tV) (default : HIx 1) ((tV).view.dmaCredit) rfl (by decide)
    (show (tV).view.set ⊆ Finset.univ from Finset.subset_univ _)) $$ [HU' HT HS]
  · isplitl [HU']; · iexact HU'
    isplitl [HT]; · iexact HT
    iexact HS
  iintro HF
  iapply (Transfers.wp_waitLocalO countersEmb 𝒱₀ (VT d L) none (default : HIx 1) rfl) $$ [HF HO]
  · isplitl [HF]; · iexact HF
    isplitl [HO]; · iexact HO
    iapply (Transfers.MayWaits.elim (SemLoc.dma sem)) $$ Hmw
  iintro ⟨⟨HT, HU⟩, HS, HO⟩
  iapply Hk
  isplitl [HU]
  · iapply (show ((uV).view.loc (VT d L) ↦[(uV).view.set]{q} U : sProp 𝕄) ⊢ uPts d U q from Entails.of_eq (by rw [View.set_whole])); iexact HU
  isplitl [HT]
  · iapply (show ((tV).view.loc (VT d L) ↦{fullShare} (tV).view.write (Elt F) f (ReadAs.same.apply ((uV).view.read (Elt F) U)) Finset.univ : sProp 𝕄) ⊢ tPts d L U from
      Entails.of_eq (congrArg (fun g => ((tV).view.loc (VT d L) ↦{fullShare} g : sProp 𝕄)) (View.write_whole_univ _ _ _))); iexact HT
  isplitl [HS]; · iexact HS
  iexists _; iexact HO

theorem offFirst (i : grid0.Coords) : k0_off1 i 0#32 = ![row0 i, 0] := k0_off1_eq i 0
theorem offSecond (i : grid0.Coords) : k0_off1 i 2#32 = ![row0 i + 2, 0] := k0_off1_eq i 1

set_option maxRecDepth 65536 in
theorem part20_spec {O : CellTallies nD τ sig (HIx 1)} (f : S16x32.Idx → Elt F .f32) (f0 : S2x2x1024.Idx → BitVec 32) :
    iprop(Transfers.MayWaits (VT d L) (default : HIx 1) O ∗ uPts d U q ∗ tPts d L f ∗ dPts (F := F) d L 0 f0 ∗ dPts (F := F) d L 1 f0 ∗ aPts d A (row0 L) (row0 L + 32)
        ∗ semVal (VT d L, SemLoc.dma a8.sem) 0 ∗ semVal (VT d L, SemLoc.dma a9.sem) 0 ∗ semVal (VT d L, SemLoc.dma a12.sem) 0 ∗ Ow d L O)
      ⊢ wp frame (wpE (defs₀ (F := F)) 𝒱₀ (VT d L) none) Set.univ (k0_part20 (F := F) L (aV) h2 (uV) h3 (yV) h4 (tV) h5 (dV) h6 (oV) h7 a8 a9 a10 a11 a12)
          fun _ => iprop(uPts d U q ∗ tPts d L U ∗ Coming (F := F) d L A 0 a8.sem (row0 L) ∗ Coming (F := F) d L A 1 a9.sem (row0 L + 2)
            ∗ aPts d A (row0 L + 2 + 2) (row0 L + 32) ∗ semVal (VT d L, SemLoc.dma a12.sem) 0 ∗ Ow d L O) := by
  rw [k0_part20_eq_skeleton]
  unfold k0_part20_skel
  dsimp only []
  iintro ⟨#Hmw, HU, HT, HD0, HD1, HA, HS0, HS1, HS, HO⟩
  iapply (table_spec d L U q f _ _) $$ [HU HT HS HO]
  · isplitr; · iexact Hmw
    isplitl [HU]; · iexact HU
    isplitl [HT]; · iexact HT
    isplitl [HS]; · iexact HS
    iexact HO
  iintro ⟨HU, HT, HS, HO⟩
  ihave HA' := (a_cut d (lo := row0 L) (mid := row0 L + 2) (hi := row0 L + 32) (by omega) (by omega) A).1 $$ HA
  icases HA' with ⟨HA0, HA⟩
  ihave HA' := (a_cut d (lo := row0 L + 2) (mid := row0 L + 2 + 2) (hi := row0 L + 32) (by omega) (by omega) A).1 $$ HA
  icases HA' with ⟨HA1, HA⟩
  rw [wp_bind]
  ihave H := (fetch_spec (sem := a8.sem) d L A (offFirst L) f0) $$ [HA0 HD0 HS0]
  · isplitl [HA0]; · iexact HA0
    isplitl [HD0]; · iexact HD0
    iexact HS0
  iapply (wp_wand _ _ _) $$ H
  iintro %_ HC0
  rw [wp_bind]
  ihave H := (fetch_spec (sem := a9.sem) d L A (offSecond L) f0) $$ [HA1 HD1 HS1]
  · isplitl [HA1]; · iexact HA1
    isplitl [HD1]; · iexact HD1
    iexact HS1
  iapply (wp_wand _ _ _) $$ H
  iintro %_ HC1
  rw [wp_pure]; imodintro
  isplitl [HU]; · iexact HU
  isplitl [HT]; · iexact HT
  isplitl [HC0]; · iexact HC0
  isplitl [HC1]; · iexact HC1
  isplitl [HA]; · iexact HA
  isplitl [HS]; · iexact HS
  iexact HO

/-! ## The eight trips -/

theorem trips_spec {O : CellTallies nD τ sig (HIx 1)} :
    iprop(Transfers.MayWaits (VT d L) (default : HIx 1) O ∗ Inv d L U A M a8.sem a9.sem a10.sem a11.sem O 0)
      ⊢ wp frame (wpE (defs₀ (F := F)) 𝒱₀ (VT d L) none) Set.univ (Scf.Loop.for k0_t1_loop k0_t1_ok ⟨⟩ (k0_t1_body (F := F) L (aV) h2 (uV) h3 (yV) h4 (tV) h5 (dV) h6 (oV) h7 a8 a9 a10 a11 a12 v2)) fun _ => Inv d L U A M a8.sem a9.sem a10.sem a11.sem O 8 := by
  have hstep : ∀ (t : Fin k0_t1_loop.trips) (acc : Unit),
      iprop(Transfers.MayWaits (VT d L) (default : HIx 1) O ∗ Inv d L U A M a8.sem a9.sem a10.sem a11.sem O t.val)
        ⊢ wp frame (wpE (defs₀ (F := F)) 𝒱₀ (VT d L) none) Set.univ (k0_t1_body (F := F) L (aV) h2 (uV) h3 (yV) h4 (tV) h5 (dV) h6 (oV) h7 a8 a9 a10 a11 a12 v2 t acc)
          fun _ => iprop(Transfers.MayWaits (VT d L) (default : HIx 1) O ∗ Inv d L U A M a8.sem a9.sem a10.sem a11.sem O (t.val + 1)) := by
    intro t acc
    iintro ⟨#Hmw, HI⟩
    ihave H := (outer_spec d L U A h2 h3 h4 h5 h6 h7 a8 a9 a10 a11 a12 v2 M t) $$ [HI]
    · isplitr; · iexact Hmw
      iexact HI
    iapply (wp_wand _ _ _) $$ H
    iintro %_ HI
    isplitr; · iexact Hmw
    iexact HI
  have h := Scf.wp_for (M := 𝕄) frame (wpE (defs₀ (F := F)) 𝒱₀ (VT d L) none) Set.univ k0_t1_loop.lb k0_t1_loop.ub k0_t1_loop.st k0_t1_ok ⟨⟩ (k0_t1_body (F := F) L (aV) h2 (uV) h3 (yV) h4 (tV) h5 (dV) h6 (oV) h7 a8 a9 a10 a11 a12 v2)
    (fun t _ => iprop(Transfers.MayWaits (VT d L) (default : HIx 1) O ∗ Inv d L U A M a8.sem a9.sem a10.sem a11.sem O t)) hstep
    (Q := fun _ => Inv d L U A M a8.sem a9.sem a10.sem a11.sem O 8)
  iintro HI
  iapply h
  isplitl [HI]; · iexact HI
  iintro %_ ⟨-, HI⟩
  rw [← trips_eq]
  iexact HI

set_option maxRecDepth 65536 in
theorem part21_spec {O : CellTallies nD τ sig (HIx 1)} :
    iprop(Transfers.MayWaits (VT d L) (default : HIx 1) O ∗ Inv d L U A M a8.sem a9.sem a10.sem a11.sem O 0)
      ⊢ wp frame (wpE (defs₀ (F := F)) 𝒱₀ (VT d L) none) Set.univ (k0_part21 (F := F) L (aV) h2 (uV) h3 (yV) h4 (tV) h5 (dV) h6 (oV) h7 a8 a9 a10 a11 a12 v2)
          fun _ => iprop(tPts d L U ∗ InSt (F := F) d L A 0 a8.sem 8 ∗ InSt (F := F) d L A 1 a9.sem 8 ∗ aPts d A (row0 L) (row0 L + 32)
            ∗ oAny d L 0 0 ∗ oAny d L 0 1 ∗ semVal (VT d L, SemLoc.dma a10.sem) 0 ∗ OutSt d L U A 1 a11.sem 8 ∗ Done d L U A 30 ∗ Ow d L O) := by
  rw [k0_part21_eq_skeleton]
  unfold k0_part21_skel
  dsimp only []
  iintro ⟨#Hmw, HI⟩
  rw [wp_bind]
  ihave H := (trips_spec d L U A h2 h3 h4 h5 h6 h7 a8 a9 a10 a11 a12 v2 M) $$ [HI]
  · isplitr; · iexact Hmw
    iexact HI
  iapply (wp_wand _ _ _) $$ H
  iintro %_ HI
  unfold Inv
  icases HI with ⟨HT, HI0, HI1, HA, -, HOu0, HOu1, HDn, -, -, HO⟩
  iapply (free_spec (b := 0) (t := 8) (n := 28) d L U A (by decide) _ _ (by decide)) $$ [HOu0 HDn HO]
  · isplitr; · iexact Hmw
    isplitl [HOu0]; · iexact HOu0
    isplitl [HDn]; · iexact HDn
    iexact HO
  iintro ⟨HO0, HO1, HS, HDn, HO⟩
  rw [wp_pure]; imodintro
  isplitl [HT]; · iexact HT
  isplitl [HI0]; · iexact HI0
  isplitl [HI1]; · iexact HI1
  isplitl [HA]; · iexact HA
  isplitl [HO0]; · iexact HO0
  isplitl [HO1]; · iexact HO1
  isplitl [HS]; · iexact HS
  isplitl [HOu1]; · iexact HOu1
  isplitl [HDn]; · iexact HDn
  iexact HO

/-! ## The body -/

theorem inSt_end {b : Fin 2} {sem : DmaSem sig} : (InSt (F := F) d L A b sem 8 : sProp 𝕄) ⊢ iprop((∃ f, dPts (F := F) d L b f) ∗ semVal (VT d L, SemLoc.dma sem) 0) := by
  unfold InSt
  rw [if_neg (by decide)]

/-- What the tile's copies use besides its buffers. -/
abbrev Cells : sProp 𝕄 :=
  iprop(semVal (VT d L, SemLoc.dma a8.sem) 0 ∗ semVal (VT d L, SemLoc.dma a9.sem) 0 ∗ semVal (VT d L, SemLoc.dma a10.sem) 0
    ∗ semVal (VT d L, SemLoc.dma a11.sem) 0 ∗ semVal (VT d L, SemLoc.dma a12.sem) 0)
/-- The tile's part of the operands and of the result, the result at `f`. -/
abbrev Part (f : S16x1024x1024.Idx → Elt F .f32) : sProp 𝕄 :=
  iprop(uPts d U q ∗ aPts d A (row0 L) (row0 L + 32) ∗ yPts d 0 (row0 L) (row0 L + 32) f ∗ yPts d 1 (row0 L) (row0 L + 32) f)
/-- The tile's three buffers, at some contents. -/
abbrev Bufs : sProp 𝕄 :=
  iprop((∃ f, (VT d L).loc cc0_scratch0 ↦{fullShare} f) ∗ (∃ f, (VT d L).loc cc0_scratch1 ↦{fullShare} f) ∗ (∃ f, (VT d L).loc cc0_scratch2 ↦{fullShare} f))

set_option maxRecDepth 65536 in
theorem body_spec {O : CellTallies nD τ sig (HIx 1)} :
    iprop(Transfers.MayWaits (VT d L) (default : HIx 1) O ∗ Part d L U A q M ∗ Bufs (F := F) d L ∗ Cells (F := F) d L a8 a9 a10 a11 a12 ∗ Ow d L O)
      ⊢ wp frame (wpE (defs₀ (F := F)) 𝒱₀ (VT d L) none) Set.univ (cc0__gdb_body (F := F) L (aV) h2 (uV) h3 (yV) h4 (tV) h5 (dV) h6 (oV) h7 a8 a9 a10 a11 a12)
          fun _ => iprop(Part d L U A q (OUT U A) ∗ Bufs (F := F) d L ∗ Cells (F := F) d L a8 a9 a10 a11 a12 ∗ Ow d L O) := by
  rw [cc0__gdb_body_eq_skeleton]
  unfold cc0__gdb_body_skel
  dsimp only []
  iintro ⟨#Hmw, ⟨HU, HA, HY0, HY1⟩, ⟨⟨%f, HT⟩, ⟨%f1, HD⟩, ⟨%f2, HOb⟩⟩, ⟨HS8, HS9, HS10, HS11, HS12⟩, HO⟩
  ihave HD' := (d_pieces d L f1) $$ HD
  icases HD' with ⟨HD0, HD1⟩
  ihave HOb' := (o_pieces d L f2) $$ HOb
  icases HOb' with ⟨⟨HO0, HO1⟩, ⟨HO2, HO3⟩⟩
  rw [wp_bind]
  ihave H := (part20_spec d L U A h2 h3 h4 h5 h6 h7 a8 a9 a10 a11 a12 q f f1) $$ [HU HT HD0 HD1 HA HS8 HS9 HS12 HO]
  · isplitr; · iexact Hmw
    isplitl [HU]; · iexact HU
    isplitl [HT]; · iexact HT
    isplitl [HD0]; · iexact HD0
    isplitl [HD1]; · iexact HD1
    isplitl [HA]; · iexact HA
    isplitl [HS8]; · iexact HS8
    isplitl [HS9]; · iexact HS9
    isplitl [HS12]; · iexact HS12
    iexact HO
  iapply (wp_wand _ _ _) $$ H
  iintro %v ⟨HU, HT, HC0, HC1, HA, HS12, HO⟩
  rw [wp_bind]
  ihave H := (part21_spec d L U A h2 h3 h4 h5 h6 h7 a8 a9 a10 a11 a12 v M) $$ [HT HC0 HC1 HA HO0 HO1 HO2 HO3 HS10 HS11 HY0 HY1 HO]
  · isplitr; · iexact Hmw
    unfold Inv Done OutSt
    rw [inSt_mid d L A (b := 0) (r := row0 L) (by decide) (by simp), inSt_mid d L A (b := 1) (r := row0 L + 2) (by decide) (by simp), if_pos rfl, if_pos rfl]
    isplitl [HT]; · iexact HT
    isplitl [HC0]; · iexact HC0
    isplitl [HC1]; · iexact HC1
    isplitr; · iapply (Entails.of_eq (a_none d (lo := row0 L) (hi := row0 L + 4 * 0) (by omega) A).symm); iempintro
    isplitl [HA]; · iexact HA
    isplitl [HO0 HO1 HS10]
    · isplitl [HO0]; · iexists f2; iexact HO0
      isplitl [HO1]; · iexists f2; iexact HO1
      iexact HS10
    isplitl [HO2 HO3 HS11]
    · isplitl [HO2]; · iexists f2; iexact HO2
      isplitl [HO3]; · iexists f2; iexact HO3
      iexact HS11
    isplitr
    · isplitr
      · iapply (Entails.of_eq (y_none d (hp := 0) (lo := row0 L) (hi := row0 L + (4 * 0 - 4)) (by omega) _).symm); iempintro
      · iapply (Entails.of_eq (y_none d (hp := 1) (lo := row0 L) (hi := row0 L + (4 * 0 - 4)) (by omega) _).symm); iempintro
    isplitl [HY0]; · iexact HY0
    isplitl [HY1]; · iexact HY1
    iexact HO
  iapply (wp_wand _ _ _) $$ H
  iintro %_ ⟨HT, HI0, HI1, HA, HO0, HO1, HS10, HOu1, HDn, HO⟩
  iapply (free_spec (b := 1) (t := 8) (n := 30) d L U A (by decide) _ _ (by decide)) $$ [HOu1 HDn HO]
  · isplitr; · iexact Hmw
    isplitl [HOu1]; · iexact HOu1
    isplitl [HDn]; · iexact HDn
    iexact HO
  iintro ⟨HO2, HO3, HS11, HDn, HO⟩
  rw [wp_pure]; imodintro
  ihave HI0 := (inSt_end d L A) $$ HI0
  ihave HI1 := (inSt_end d L A) $$ HI1
  unfold Done
  icases HI0 with ⟨HD0, HS8⟩
  icases HI1 with ⟨HD1, HS9⟩
  icases HDn with ⟨HY0, HY1⟩
  isplitl [HU HA HY0 HY1]
  · isplitl [HU]; · iexact HU
    isplitl [HA]; · iexact HA
    isplitl [HY0]; · iexact HY0
    iexact HY1
  isplitl [HT HD0 HD1 HO0 HO1 HO2 HO3]
  · isplitl [HT]; · iexists U; iexact HT
    isplitl [HD0 HD1]
    · iapply (d_whole d L)
      isplitl [HD0]; · iexact HD0
      iexact HD1
    · iapply (o_whole d L)
      isplitl [HO0 HO1]
      · isplitl [HO0]; · iexact HO0
        iexact HO1
      · isplitl [HO2]; · iexact HO2
        iexact HO3
  isplitr [HO]
  · isplitl [HS8]; · iexact HS8
    isplitl [HS9]; · iexact HS9
    isplitl [HS10]; · iexact HS10
    isplitl [HS11]; · iexact HS11
    iexact HS12
  iexact HO

end Body

end Cert.Proof.Bias
-- ==== Proof.Launch.lean ====
/-
  The launch: the tiles' parts dealt and put together again, @main on the TensorCore, the run from the launch memory.
-/
module

public import proofs.«01_k».proof.Proof.Body
public import Idealize.ShloMosaic.Lib.ShareLeaves

@[expose] public section

noncomputable section

namespace Cert.Proof.Bias

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "aV" => (Memref.whole Cert.KernelIdeal.main_arg0_scv : Memref Cert.KernelIdeal.sig Kind.scVector Space.hbm Cert.KernelIdeal.S1024x1024 EltTy.i32)
local notation "uV" => (Memref.whole Cert.KernelIdeal.main_v0_scv : Memref Cert.KernelIdeal.sig Kind.scVector Space.hbm Cert.KernelIdeal.S16x32 EltTy.f32)
local notation "yV" => (Memref.whole Cert.KernelIdeal.main_v1_scv : Memref Cert.KernelIdeal.sig Kind.scVector Space.hbm Cert.KernelIdeal.S16x1024x1024 EltTy.f32)
local notation "tV" => (Memref.whole Cert.KernelIdeal.cc0_scratch0 : Memref Cert.KernelIdeal.sig Kind.scVector Space.vmem Cert.KernelIdeal.S16x32 EltTy.f32)
local notation "dV" => (Memref.whole Cert.KernelIdeal.cc0_scratch1 : Memref Cert.KernelIdeal.sig Kind.scVector Space.vmem Cert.KernelIdeal.S2x2x1024 EltTy.i32)
local notation "oV" => (Memref.whole Cert.KernelIdeal.cc0_scratch2 : Memref Cert.KernelIdeal.sig Kind.scVector Space.vmem Cert.KernelIdeal.S2x16x2x1024 EltTy.f32)

open Idealize.ShloMosaic.StableHlo (held wp_hlo_within)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

/-! ## The operands and the result -/

abbrev bLoc (d : Dev nD) : Loc nD τ sig := (SparseCore.T d).loc main_arg1
/-- The distances; the table as the host turns it; what the kernel leaves as the result. -/
abbrev dist (d : Dev nD) : S1024x1024.Idx → BitVec 32 := m (aLoc d)
abbrev turned (d : Dev nD) : S16x32.Idx → Elt F .f32 := transpose S16x32 [1, 0] (m (bLoc d) : S32x16.Idx → Elt F .f32) transposes_S32x16_S16x32_1_0
abbrev result (d : Dev nD) : S16x1024x1024.Idx → Elt F .f32 := OUT (turned m d) (dist m d)

/-! ## The tiles -/

abbrev coordsV (c : Fin (grid0.bound 0)) (i : Fin (grid0.bound 1)) : grid0.Coords :=
  fun | 0 => c | 1 => i | ⟨_ + 2, h⟩ => absurd h (Nat.not_lt.2 (Nat.le_add_left _ _))
abbrev at2 (c : Fin 2) (i : Fin 16) : grid0.Coords := coordsV c i
theorem row0_at (c : Fin 2) (i : Fin 16) : row0 (at2 c i) = 64 * i.val + 32 * c.val := rfl

/-- The tile's share of the turned table. -/
abbrev tileShare (c : Fin 2) (i : Fin 16) : PosShare TreeShare := ShareLeaves.leaf 4 (ShareLeaves.leaf 1 fullShare c) i

/-- What tile `(c, i)` is dealt, the result at `f`. -/
abbrev Piece (d : Dev nD) (c : Fin 2) (i : Fin 16) (f : S16x1024x1024.Idx → Elt F .f32) : sProp 𝕄 :=
  Part d (at2 c i) (turned m d) (dist m d) (tileShare c i) f

theorem rows_apart (p p' : Fin 2 × Fin 16) (h : p ≠ p') {n : ℕ} (h1 : row0 (at2 p.1 p.2) ≤ n ∧ n < row0 (at2 p.1 p.2) + 32)
    (h2 : row0 (at2 p'.1 p'.2) ≤ n ∧ n < row0 (at2 p'.1 p'.2) + 32) : False := by
  rw [row0_at] at h1 h2
  have hp := p.1.isLt; have hp' := p'.1.isLt
  exact h (Prod.ext (Fin.ext (by omega)) (Fin.ext (by omega)))
theorem rows_all {n : ℕ} (h : n < 1024) : ∃ p : Fin 2 × Fin 16, row0 (at2 p.1 p.2) ≤ n ∧ n < row0 (at2 p.1 p.2) + 32 :=
  ⟨(⟨n / 32 % 2, by omega⟩, ⟨n / 64, by omega⟩), by
    rw [row0_at]; show 64 * (n / 64) + 32 * (n / 32 % 2) ≤ n ∧ n < 64 * (n / 64) + 32 * (n / 32 % 2) + 32; omega⟩

/-- A tile's rows of the result, all heads. -/
abbrev yBoth (p : Fin 2 × Fin 16) : Finset S16x1024x1024.Idx :=
  yRows 0 (row0 (at2 p.1 p.2)) (row0 (at2 p.1 p.2) + 32) ∪ yRows 1 (row0 (at2 p.1 p.2)) (row0 (at2 p.1 p.2) + 32)
abbrev aTile (p : Fin 2 × Fin 16) : Finset S1024x1024.Idx := aRows (row0 (at2 p.1 p.2)) (row0 (at2 p.1 p.2) + 32)

theorem mem_yBoth {p : Fin 2 × Fin 16} {x : S16x1024x1024.Idx} : x ∈ yBoth p ↔ row0 (at2 p.1 p.2) ≤ (x 1).val ∧ (x 1).val < row0 (at2 p.1 p.2) + 32 := by
  have h : (x 0).val < 16 := (x 0).isLt
  rw [Finset.mem_union, mem_yRows, mem_yRows, Fin.val_zero, Fin.val_one]
  omega
theorem yHalves_apart (lo hi : ℕ) : Disjoint (yRows 0 lo hi) (yRows 1 lo hi) := Finset.disjoint_left.mpr fun x hx hx' => by
  rw [mem_yRows] at hx hx'
  rw [Fin.val_zero] at hx; rw [Fin.val_one] at hx'
  omega

theorem aTiles_apart : ∀ p ∈ (Finset.univ : Finset (Fin 2 × Fin 16)), ∀ p' ∈ (Finset.univ : Finset (Fin 2 × Fin 16)), p ≠ p' → Disjoint (aTile p) (aTile p') :=
  fun p _ p' _ h => Finset.disjoint_left.mpr fun x hx hx' => rows_apart p p' h (mem_aRows.mp hx) (mem_aRows.mp hx')
theorem yBoth_apart : ∀ p ∈ (Finset.univ : Finset (Fin 2 × Fin 16)), ∀ p' ∈ (Finset.univ : Finset (Fin 2 × Fin 16)), p ≠ p' → Disjoint (yBoth p) (yBoth p') :=
  fun p _ p' _ h => Finset.disjoint_left.mpr fun x hx hx' => rows_apart p p' h (mem_yBoth.mp hx) (mem_yBoth.mp hx')
theorem aTiles_all : (Finset.univ : Finset (Fin 2 × Fin 16)).biUnion aTile = Finset.univ :=
  Finset.eq_univ_of_forall fun x => by
    obtain ⟨p, hp⟩ := rows_all (n := (x 0).val) (x 0).isLt
    exact Finset.mem_biUnion.mpr ⟨p, Finset.mem_univ _, mem_aRows.mpr hp⟩
theorem yBoth_all : (Finset.univ : Finset (Fin 2 × Fin 16)).biUnion yBoth = Finset.univ :=
  Finset.eq_univ_of_forall fun x => by
    obtain ⟨p, hp⟩ := rows_all (n := (x 1).val) (x 1).isLt
    exact Finset.mem_biUnion.mpr ⟨p, Finset.mem_univ _, mem_yBoth.mpr hp⟩

theorem a_tiles (d : Dev nD) (A : S1024x1024.Idx → BitVec 32) :
    ((aLoc d ↦{fullShare} A) : sProp 𝕄) = bigSep Finset.univ fun c : Fin 2 => bigSep Finset.univ fun i : Fin 16 => aPts (F := F) d A (row0 (at2 c i)) (row0 (at2 c i) + 32) := by
  rw [← BI.bigSep_univ_prod (fun p : Fin 2 × Fin 16 => (aPts (F := F) d A (row0 (at2 p.1 p.2)) (row0 (at2 p.1 p.2) + 32) : sProp 𝕄))]
  rw [← aTiles_all]
  exact pointsTo_biUnion Finset.univ (ℓ := aLoc d) aTile aTiles_apart
theorem y_tiles (d : Dev nD) (f : S16x1024x1024.Idx → Elt F .f32) :
    ((yLoc d ↦{fullShare} f) : sProp 𝕄) = bigSep Finset.univ fun c : Fin 2 => bigSep Finset.univ fun i : Fin 16 =>
      iprop(yPts d 0 (row0 (at2 c i)) (row0 (at2 c i) + 32) f ∗ yPts d 1 (row0 (at2 c i)) (row0 (at2 c i) + 32) f) := by
  rw [← BI.bigSep_univ_prod (fun p : Fin 2 × Fin 16 =>
    (iprop(yPts d 0 (row0 (at2 p.1 p.2)) (row0 (at2 p.1 p.2) + 32) f ∗ yPts d 1 (row0 (at2 p.1 p.2)) (row0 (at2 p.1 p.2) + 32) f) : sProp 𝕄))]
  rw [← yBoth_all]
  refine (pointsTo_biUnion Finset.univ (ℓ := yLoc d) yBoth yBoth_apart).trans (bigSep_congr fun p _ => ?_)
  exact BI.Entails.antisymm (pointsTo_union (yHalves_apart _ _)).1 (pointsTo_union (yHalves_apart _ _)).2
theorem u_tiles (d : Dev nD) (U : S16x32.Idx → Elt F .f32) :
    ((uLoc d ↦{fullShare} U) : sProp 𝕄) = bigSep Finset.univ fun c : Fin 2 => bigSep Finset.univ fun i : Fin 16 => uPts d U (tileShare c i) := by
  refine (ShareLeaves.pointsTo_leaves (ℓ := uLoc d) Finset.univ U 1 fullShare).trans ?_
  exact bigSep_congr fun c _ => ShareLeaves.pointsTo_leaves (ℓ := uLoc d) Finset.univ U 4 _

/-- The tiles' parts are the distances, the turned table and the result. -/
theorem pieces (d : Dev nD) (f : S16x1024x1024.Idx → Elt F .f32) :
    (bigSep Finset.univ fun c : Fin 2 => bigSep Finset.univ fun i : Fin 16 => Piece m d c i f)
      = (iprop((uLoc d ↦{fullShare} turned m d) ∗ (aLoc d ↦{fullShare} dist m d) ∗ (yLoc d ↦{fullShare} f)) : sProp 𝕄) := by
  rw [a_tiles, y_tiles, u_tiles, ← bigSep_sep', ← bigSep_sep']
  refine bigSep_congr fun c _ => ?_
  rw [← bigSep_sep', ← bigSep_sep']

/-! ## What the handshakes carry -/

abbrev coreOf (c : Fin ((K (F := F)).nCore 0)) : Fin 2 := Fin.cast (rfl : (K (F := F)).nCore 0 = 2) c
abbrev subOf (i : Fin ((K (F := F)).nSub 0)) : Fin 16 := Fin.cast (rfl : (K (F := F)).nSub 0 = 16) i

/-- A core is handed its sixteen tiles' parts and brings them back with the result in them; a tile its own. -/
def P : (K (F := F)).Pay (nD := nD) (Val := Elt F) (Name := ℕ) (U := UU) where
  st := fun q d c => match q with | 0 => bigSep Finset.univ fun i : Fin 16 => Piece m d (coreOf c) i (m (yLoc d))
  dn := fun q d c => match q with | 0 => bigSep Finset.univ fun i : Fin 16 => Piece m d (coreOf c) i (result m d)
  go := fun q d c i => match q with | 0 => Piece m d (coreOf c) (subOf i) (m (yLoc d))
  td := fun q d c i => match q with | 0 => Piece m d (coreOf c) (subOf i) (result m d)
  x := fun _ _ => iprop(emp)

instance P_storable : (P (F := F) m).IsStorable where
  st q d c := match q with
    | 0 => (inferInstance : BI.Storable (upEmb : UEmb _ 𝕄) (bigSep Finset.univ fun i : Fin 16 => Piece m d (coreOf c) i (m (yLoc d))))
  dn q d c := match q with
    | 0 => (inferInstance : BI.Storable (upEmb : UEmb _ 𝕄) (bigSep Finset.univ fun i : Fin 16 => Piece m d (coreOf c) i (result m d)))
  go q d c i := match q with
    | 0 => (inferInstance : BI.Storable (upEmb : UEmb _ 𝕄) (Piece m d (coreOf c) (subOf i) (m (yLoc d))))
  td q d c i := match q with
    | 0 => (inferInstance : BI.Storable (upEmb : UEmb _ 𝕄) (Piece m d (coreOf c) (subOf i) (result m d)))

/-! ## A tile's task -/

section Tile

variable [FloatOps F] (d : Dev nD) (L : grid0.Coords)

abbrev theCells : sProp 𝕄 := Cells (F := F) d L cc0_scratch3 cc0_scratch4 cc0_scratch5 cc0_scratch6 cc0_scoped0
abbrev dcell (k : Fin 5) : GSem nD τ sig := (VT d L, .dma (⟨k.val, k.isLt⟩ : DmaSem sig))

omit [FloatOps F] in
theorem dcell_mem (k : Fin 5) : dcell d L k ∈ ownCells (VT d L) :=
  mem_ownCells.mpr ⟨rfl, (show ∀ s : DmaSem sig, (SemLoc.dma s : SemLoc sig).isScoped .scVector = true by decide) _⟩

omit [FloatOps F] in
theorem ownSems0_V :
    (ownSems0 (VT d L) : sProp 𝕄) = iprop(theCells (F := F) d L ∗ bigSep ((ownCells (VT d L)) \ Finset.univ.image (dcell d L)) fun g => semVal g 0) := by
  unfold SparseCore.Cfg.ownSems0
  rw [SparseCore.bigSep_sdiff_split' (t := Finset.univ.image (dcell d L)) (Finset.image_subset_iff.mpr fun k _ => dcell_mem d L k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

abbrev dref (b : Ref sig .scVector) : DevRef τ sig := (Proc.scVector (cV L) (jV L)).devRef b
omit [FloatOps F] in
theorem dref_ne {b b' : Ref sig .scVector} (h : b ≠ b') : dref L b ≠ dref L b' := fun e => absurd (Proc.devRef_injective _ e) h

omit [FloatOps F] in
theorem ownBufs_V :
    (ownBufs (VT d L) : sProp 𝕄)
      = iprop((∃ f, (VT d L).loc cc0_scratch0 ↦{fullShare} f) ∗ (∃ f, (VT d L).loc cc0_scratch1 ↦{fullShare} f) ∗ (∃ f, (VT d L).loc cc0_scratch2 ↦{fullShare} f)
          ∗ bigSep ((((ownRefs (τ := τ) (.scVector (cV L) (jV L))).erase (dref L cc0_scratch0)).erase (dref L cc0_scratch1)).erase (dref L cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := dref L cc0_scratch0) rfl)).trans ?_
  rw [SparseCore.bigSep_erase' (Finset.mem_erase.mpr ⟨dref_ne L (show (cc0_scratch1 : Ref sig .scVector) ≠ cc0_scratch0 by decide),
      SparseCore.Cfg.mem_ownRefs_of_owner (p := Proc.scVector (cV L) (jV L)) (b := dref L cc0_scratch1) rfl⟩),
    SparseCore.bigSep_erase' (Finset.mem_erase.mpr ⟨dref_ne L (show (cc0_scratch2 : Ref sig .scVector) ≠ cc0_scratch1 by decide),
      Finset.mem_erase.mpr ⟨dref_ne L (show (cc0_scratch2 : Ref sig .scVector) ≠ cc0_scratch0 by decide),
      SparseCore.Cfg.mem_ownRefs_of_owner (p := Proc.scVector (cV L) (jV L)) (b := dref L cc0_scratch2) rfl⟩⟩)]

/-- The kernel's body on the tile's buffers. -/
abbrev bodyOf (L : grid0.Coords) : Pg (F := F) L PUnit :=
  cc0__gdb_body L (aV) (Memref.isWhole_whole _) (uV) (Memref.isWhole_whole _) (yV) (Memref.isWhole_whole _) (tV) (Memref.isWhole_whole _)
    (dV) (Memref.isWhole_whole _) (oV) (Memref.isWhole_whole _) cc0_scratch3 cc0_scratch4 cc0_scratch5 cc0_scratch6 cc0_scoped0

theorem task_spec (U : S16x32.Idx → Elt F .f32) (A : S1024x1024.Idx → BitVec 32) (q : PosShare TreeShare) (M : S16x1024x1024.Idx → Elt F .f32)
    (hF : (K (F := F)).Facts) (O : CellTallies nD τ sig (HIx 1)) (W : Waits sig (HIx 1)) (hO : ∀ g, O g none = 0) :
    iprop(levAts (K (F := F)).L (K (F := F)).lev ∗ emp ∗ Part d L U A q M ∗ scopedBufs (VT d L) ∗ scopedSems0 (VT d L) ∗ owes (VT d L) O W)
      ⊢ wp frame (wpE (defs₀ (F := F)) 𝒱₀ (VT d L) none) Set.univ (bodyOf (F := F) L)
          fun _ => iprop(Part d L U A q (OUT U A) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, HP, ⟨H0, H1, H2, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave H := (body_spec d L U A (Memref.isWhole_whole _) (Memref.isWhole_whole _) (Memref.isWhole_whole _) (Memref.isWhole_whole _) (Memref.isWhole_whole _)
    (Memref.isWhole_whole _) cc0_scratch3 cc0_scratch4 cc0_scratch5 cc0_scratch6 cc0_scoped0 M q (O := O)) $$ [Hmw HP H0 H1 H2 HC HO]
  · isplitl [Hmw]; · iexact Hmw
    isplitl [HP]; · iexact HP
    isplitl [H0 H1 H2]
    · isplitl [H0]; · iexact H0
      isplitl [H1]; · iexact H1
      iexact H2
    isplitl [HC]; · iexact HC
    iexists W; iexact HO
  iapply (wp_wand _ _ _) $$ H
  iintro %_ ⟨HP, ⟨H0, H1, H2⟩, HC, ⟨%W', HO⟩⟩
  isplitl [HP]; · iexact HP
  isplitl [H0 H1 H2 Hbufs]
  · isplitl [H0]; · iexact H0
    isplitl [H1]; · iexact H1
    isplitl [H2]; · iexact H2
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

end Tile

variable [FloatOps F]

theorem defs₀_vector (c : Fin τ.nSC) (s : Fin τ.nSub) :
    defs₀ (F := F) (.scVector c s) 0 () = SparseCore.onTile hcore0 hsub0 (fun c s => bodyOf (F := F) (coordsV c s)) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact task_spec d (coordsV ⟨_, hci.1⟩ ⟨_, hci.2⟩) (turned m d) (dist m d) (tileShare (coreOf c) (subOf i)) (m (yLoc d)) hF O W hO

omit [FloatOps F] in
theorem bigSep_subs (Φ : Fin 16 → sProp 𝕄) : (bigSep Finset.univ fun i : Fin ((K (F := F)).nSub 0) => Φ (subOf i)) = bigSep Finset.univ Φ :=
  bigSep_congr fun _ _ => congrArg Φ (Fin.ext rfl)
omit [FloatOps F] in
theorem bigSep_cores (Φ : Fin 2 → sProp 𝕄) : (bigSep Finset.univ fun c : Fin ((K (F := F)).nCore 0) => Φ (coreOf c)) = bigSep Finset.univ Φ :=
  bigSep_congr fun _ _ => congrArg Φ (Fin.ext rfl)

omit [FloatOps F] in
theorem vecSplit : (K (F := F)).VecSplit' (P m) 0 := by
  intro d c
  show (bigSep Finset.univ fun i : Fin 16 => Piece m d (coreOf c) i (m (yLoc d))) ⊢ |={Set.univ}=> iprop(
    (bigSep Finset.univ fun i : Fin ((K (F := F)).nSub 0) => Piece m d (coreOf c) (subOf i) (m (yLoc d)))
      ∗ ((bigSep Finset.univ fun i : Fin ((K (F := F)).nSub 0) => Piece m d (coreOf c) (subOf i) (result m d))
        -∗ bigSep Finset.univ fun i : Fin 16 => Piece m d (coreOf c) i (result m d)))
  rw [bigSep_subs (fun i => Piece m d (coreOf c) i (m (yLoc d))), bigSep_subs (fun i => Piece m d (coreOf c) i (result m d))]
  iintro H; imodintro
  isplitl [H]; · iexact H
  iintro H; iexact H

/-! ## The launch element of the ghost state -/

def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## @main on the TensorCore -/

abbrev ref (b : Ref sig .tc) : DevRef τ sig := Proc.devRef .tc b
/-- The host's turning of the table. -/
abbrev turn : HloOp τ sig (Elt F) := StableHlo.unary main_arg1 main_v0
  ((transpose S16x32 [1, 0] · transposes_S32x16_S16x32_1_0) : (⟨S32x16, .f32⟩ : BufTy).Contents (Elt F) → (⟨S16x32, .f32⟩ : BufTy).Contents (Elt F))
abbrev S2 : Finset (DevRef τ sig) := {ref main_arg1, ref main_v0}
def W0 (d : Dev nD) : Valuation τ sig (Elt F) := fun b => m (d, b)

omit [FloatOps F] in
theorem held_S2 (d : Dev nD) (W : Valuation τ sig (Elt F)) :
    (held (SparseCore.T d) S2 W : sProp 𝕄) = iprop((bLoc d ↦{fullShare} W (ref main_arg1)) ∗ (uLoc d ↦{fullShare} W (ref main_v0))) := by
  unfold held S2
  rw [SparseCore.bigSep_insert' (by decide), bigSep_singleton]
omit [FloatOps F] in
theorem turn_bufs : (turn (F := F)).bufs ⊆ S2 := show ({ref main_arg1, ref main_v0} : Finset (DevRef τ sig)) ⊆ S2 by decide
omit [FloatOps F] in
theorem turn_table (d : Dev nD) : (turn (F := F)).result (W0 m d) (ref main_arg1) = m (bLoc d) :=
  (turn (F := F)).result_of_not_mem (W0 m d) (b := ref main_arg1) (show ref main_arg1 ∉ ({ref main_v0} : Finset (DevRef τ sig)) by decide)
omit [FloatOps F] in
theorem turn_result (d : Dev nD) : (turn (F := F)).result (W0 m d) (ref main_v0) = turned m d :=
  StableHlo.unary_result main_arg1 main_v0 _ _ _ (W0 m d)

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (bLoc d ↦{fullShare} W main_arg1) ∗ (uLoc d ↦{fullShare} W main_v0)
      ∗ yLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

omit [FloatOps F] in
theorem st0_eq (d : Dev nD) : (bigSep Finset.univ fun c : Fin ((K (F := F)).nCore 0) => (P m).st 0 d c)
    = iprop((uLoc d ↦{fullShare} turned m d) ∗ (aLoc d ↦{fullShare} dist m d) ∗ (yLoc d ↦{fullShare} m (yLoc d))) :=
  (bigSep_cores (fun c => bigSep Finset.univ fun i : Fin 16 => Piece m d c i (m (yLoc d)))).trans (pieces m d _)
omit [FloatOps F] in
theorem dn0_eq (d : Dev nD) : (bigSep Finset.univ fun c : Fin ((K (F := F)).nCore 0) => (P m).dn 0 d c)
    = iprop((uLoc d ↦{fullShare} turned m d) ∗ (aLoc d ↦{fullShare} dist m d) ∗ (yLoc d ↦{fullShare} result m d)) :=
  (bigSep_cores (fun c => bigSep Finset.univ fun i : Fin 16 => Piece m d c i (result m d))).trans (pieces m d _)

/-- What @main leaves: the arguments as launched, the result. -/
abbrev FIN (d : Dev nD) : sProp 𝕄 :=
  iprop((aLoc d ↦{fullShare} m (aLoc d)) ∗ (bLoc d ↦{fullShare} m (bLoc d)) ∗ (yLoc d ↦{fullShare} result m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Ht, Hu, Hy⟩, Hts, -⟩, -⟩
  iapply (wp_hlo_within 𝒱 (SparseCore.T d) none Set.univ (op := turn) (S := S2) turn_bufs (V := W0 m d)) $$ [Hb Ht Hu]
  · isplitl [Hb]; · iexact Hb
    rw [held_S2]
    isplitl [Ht]; · iexact Ht
    iexact Hu
  iintro ⟨Hb, Hheld⟩
  ihave Hheld' := (show held (SparseCore.T d) S2 ((turn (F := F)).result (W0 m d)) ⊢ (iprop((bLoc d ↦{fullShare} m (bLoc d)) ∗ (uLoc d ↦{fullShare} turned m d)) : sProp 𝕄) from
    Entails.of_eq (by rw [held_S2, turn_table, turn_result])) $$ Hheld
  icases Hheld' with ⟨Ht, Hu⟩
  rw [wp_ret]; imodintro
  iapply ((K (F := F)).wp_run (D (F := F)) 𝒱 (EH := EH) (P := P m) κ d 0) $$ [Hst Ha Hu Hy Hb Ht Hts]
  isplitr; · iexact Hctx
  isplitl [Hst]; · iexact Hst
  isplitl [Ha Hu Hy]
  · rw [st0_eq]
    isplitl [Hu]; · iexact Hu
    isplitl [Ha]; · iexact Ha
    iexact Hy
  iintro ⟨Hst, Hdn⟩
  ihave Hdn' := (Entails.of_eq (dn0_eq m d)) $$ Hdn
  icases Hdn' with ⟨-, Ha, Hy⟩
  imodintro
  isplitl [Hst]; · iexact Hst
  isplitr [Hb Hts]
  · isplitl [Ha]; · iexact Ha
    isplitl [Ht]; · iexact Ht
    iexact Hy
  isplitl [Hb] <;> iassumption

def fq (d : Dev nD) (s' : Phys nD τ sig (Elt F)) : Prop :=
  s'.mem.mem (aLoc d) = m (aLoc d) ∧ s'.mem.mem (bLoc d) = m (bLoc d) ∧ s'.mem.mem (yLoc d) = result m d

omit [FloatOps F] in
theorem hfin (d : Dev nD) (s' : Phys nD τ sig (Elt F)) : iprop(FIN m d ∗ SI s') ⊢ (⌜fq m d s'⌝ : sProp 𝕄) := by
  iintro ⟨⟨Ha, Hb, Hy⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := yLoc d) (I := Finset.univ) (q := fullShare) (f := result m d)) $$ [HSI Hy]
  · isplitl [HSI] <;> iassumption
  icases H with %h3
  ipureintro
  exact ⟨funext fun i => h1 i (Finset.mem_univ i), funext fun i => h2 i (Finset.mem_univ i), funext fun i => h3 i (Finset.mem_univ i)⟩

/-! ## The run -/

/-- What every run ends with: the arguments as launched, the result, no semaphore raised. -/
def Ends : PUnit × MemSt nD τ sig (Elt F) → Prop := fun r =>
  (∀ c : Dev nD, r.2.mem (aLoc c) = m (aLoc c) ∧ r.2.mem (bLoc c) = m (bLoc c) ∧ r.2.mem (yLoc c) = result m c) ∧ r.2.sem = fun _ => 0

theorem run_main [∀ e, Nonempty (Elt F e)] :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (Ends m) (fun _ h hz => ⟨h, hz⟩)

end Cert.Proof.Bias
-- ==== Proof.Values.lean ====
/-
  The reference's value: its composed term at words of the vocabulary is the table's row at the word, and so is the kernel's
  result. Plain facts about arrays, with no run in them.
-/
module

public import proofs.«01_k».proof.Proof.Launch
public import proofs.«01_k».proof.Proof.Gen.ReferenceIdeal.Run
public import proofs.«01_k».proof.Proof.Gen.Pre_in_vocab
public import Idealize.ShloMosaic.Lib.ReduceAll
public import Idealize.ShloMosaic.Lib.Pipeline.Value

@[expose] public section

noncomputable section

namespace Cert.Proof.Bias

open Idealize.ShloMosaic Idealize.ShloMosaic.ValueIdx

variable {F : FTy → Type}

/-! ## Words of the vocabulary -/

/-- Every distance is one of the table's 32 rows. -/
def InVocab (A : KernelIdeal.S1024x1024.Idx → BitVec 32) : Prop := ∀ x, (A x).toNat < 32

theorem nonneg_lt {w b : BitVec 32} (hb : b.toNat < 2 ^ 31) (e : IntOp.andi (IntOp.cmpi .sge w 0#32) (IntOp.cmpi .slt w b) = 1#1) :
    w.toNat < b.toNat := by
  obtain ⟨h0, h1⟩ := IntOp.andi_eq_one.1 e
  have hbit : ∀ p : Bool, BitVec.ofBool p = 1#1 → p = true := by intro p; cases p <;> decide
  have h0 := hbit _ h0
  have h1 := hbit _ h1
  simp only [BitVec.sle_eq_decide, BitVec.slt_eq_decide, decide_eq_true_eq, BitVec.toInt_eq_toNat_cond, BitVec.toNat_ofNat,
    Nat.reducePow, Nat.reduceMod] at h0 h1
  omega

theorem inVocab_of_pre [FloatOps F] (A : KernelIdeal.S1024x1024.Idx → BitVec 32) (B : KernelIdeal.S32x16.Idx → Elt F .f32)
    (h : Cert.Pre_in_vocab.fn (F := F) A B = fun _ => 1#1) : InVocab A := by
  intro x
  haveI : Subsingleton Cert.Pre_in_vocab.S_.Idx := ⟨fun a b => funext fun i => i.elim0⟩
  have e := congrFun h (fun i => i.elim0)
  unfold Cert.Pre_in_vocab.fn at e
  dsimp only at e
  have hx := Host.reduce_andi_all _ _ _ _ _ e x
  exact nonneg_lt (b := 32#32) (by decide) hx

theorem slt_word {w b : BitVec 32} (hw : w.toNat < 32) (hb : b.toNat ≤ 32) : IntOp.cmpi .slt w b = BitVec.ofBool (decide (w.toNat < b.toNat)) := by
  refine congrArg BitVec.ofBool ?_
  rw [BitVec.slt_eq_decide, BitVec.toInt_eq_toNat_cond, BitVec.toInt_eq_toNat_cond, if_pos (by omega), if_pos (by omega)]
  simp only [Nat.cast_lt]

/-! ## The kernel's result -/

theorem low_bits (w : BitVec 32) : (w &&& 15#32).toNat = w.toNat % 16 := by
  rw [BitVec.toNat_and]; exact Nat.and_two_pow_sub_one_eq_mod w.toNat 4

/-- The two halves' lookup is the lookup at the word. -/
theorem pick_eq (U : KernelIdeal.S16x32.Idx → Elt F .f32) (h : Fin 16) (w : BitVec 32) (hw : w.toNat < 32) : pick U h w = U (ix2 h ⟨w.toNat, hw⟩) := by
  unfold pick
  rw [slt_word hw (by decide)]
  by_cases hlt : w.toNat < 16
  · rw [show BitVec.ofBool (decide (w.toNat < (16#32).toNat)) = 1#1 from congrArg BitVec.ofBool (decide_eq_true hlt), select_one]
    exact congrArg (fun k => U (ix2 h k)) (Fin.ext (by show (w &&& 15#32).toNat = w.toNat; rw [low_bits]; omega))
  · rw [show BitVec.ofBool (decide (w.toNat < (16#32).toNat)) = 0#1 from congrArg BitVec.ofBool (decide_eq_false hlt), select_zero]
    exact congrArg (fun k => U (ix2 h k)) (Fin.ext (by show 16 + (w &&& 15#32).toNat = w.toNat; rw [low_bits]; omega))

/-- The table's entry at each word, heads first: what both programs compute. -/
def looked (A : KernelIdeal.S1024x1024.Idx → BitVec 32) (hA : InVocab A) (B : KernelIdeal.S32x16.Idx → Elt F .f32) :
    KernelIdeal.S16x1024x1024.Idx → Elt F .f32 :=
  fun x => B (ix2 ⟨(A (ix2 (x 1) (x 2))).toNat, hA _⟩ (x 0))

theorem out_looked (A : KernelIdeal.S1024x1024.Idx → BitVec 32) (hA : InVocab A) (B : KernelIdeal.S32x16.Idx → Elt F .f32) :
    OUT (transpose KernelIdeal.S16x32 [1, 0] B KernelIdeal.Facts₀.transposes_S32x16_S16x32_1_0) A = looked A hA B := by
  funext x
  refine (pick_eq _ _ _ (hA (ix2 (x 1) (x 2)))).trans ?_
  exact transpose_apply _ _ _ _ _ (by intro b; fin_cases b <;> rfl)

/-! ## The reference's term -/

section Reference

open Cert.ReferenceIdeal Cert.ReferenceIdeal.Facts₀

theorem noWrap (A : S1024x1024.Idx → BitVec 32) (hA : InVocab A) :
    select (cmpi .slt A (broadcastInDim S1024x1024 ![] bcast_S_S1024x1024 (constantI S_ 32 0#32)))
      (addi A (broadcastInDim S1024x1024 ![] bcast_S_S1024x1024 (constantI S_ 32 32#32))) A = A := by
  funext x
  show Scalar.select (IntOp.cmpi .slt (A x) 0#32) _ (A x) = A x
  rw [slt_word (hA x) (by decide)]
  exact select_zero _ _

/-- The distances as start indices. -/
abbrev starts (A : S1024x1024.Idx → BitVec 32) : S1024x1024x1.Idx → BitVec 32 :=
  broadcastInDim S1024x1024x1 ![0, 1] bcast_S1024x1024_S1024x1024x1_0_1 A

theorem starts_apply (A : S1024x1024.Idx → BitVec 32) (x : S1024x1024x1.Idx) : starts A x = A (ix2 (x 0) (x 1)) :=
  broadcastInDim_apply _ _ _ _ _ (by intro a; fin_cases a <;> rfl)

theorem inRange (A : S1024x1024.Idx → BitVec 32) (hA : InVocab A) (j : S1024x1024.Idx) :
    Host.reduce IntOp.andi (andi (cmpi .sge (starts A) (broadcastInDim S1024x1024x1 ![] bcast_S_S1024x1024x1 (constantI S_ 32 0#32)))
      (cmpi .sle (starts A) (broadcastInDim S1024x1024x1 ![0, 1, 2] bcast_S1x1x1_S1024x1024x1_0_1_2 (broadcastInDim S1x1x1 ![2] bcast_S1_S1x1x1_2 (constantI S1 32 31#32)))))
      (constantI S_ 1 1#1) reducesTo_S1024x1024x1_S1024x1024_d2 h_S_ j = 1#1 := by
  refine Host.reduce_andi_one _ _ _ _ _ rfl fun x => ?_
  show IntOp.andi (IntOp.cmpi .sge (starts A x) 0#32) (IntOp.cmpi .sle (starts A x) 31#32) = 1#1
  have hw : (starts A x).toNat < 32 := by rw [starts_apply]; exact hA _
  refine IntOp.andi_eq_one.2 ⟨?_, ?_⟩
  · refine congrArg BitVec.ofBool (a₂ := true) ?_
    show (0#32).sle (starts A x) = true
    rw [BitVec.sle_eq_decide, BitVec.toInt_eq_toNat_cond, BitVec.toInt_eq_toNat_cond, if_pos (by decide), if_pos (by omega), decide_eq_true_eq]
    exact Int.natCast_nonneg _
  · refine congrArg BitVec.ofBool (a₂ := true) ?_
    show (starts A x).sle 31#32 = true
    rw [BitVec.sle_eq_decide, BitVec.toInt_eq_toNat_cond, BitVec.toInt_eq_toNat_cond, if_pos (by omega), if_pos (by decide), decide_eq_true_eq]
    exact Int.ofNat_le.mpr (Nat.le_of_lt_succ hw)

/-- The start index of result element `(i, j, h)`. -/
abbrev startOf (y : S1024x1024x16.Idx) : S1024x1024x1.Idx := ix3 (y 0) (y 1) (⟨0, Nat.one_pos⟩ : Fin 1)

abbrev rowsDims : GatherDims S32x16 S1024x1024x1 S1024x1024x16 := gather_S32x16_S1024x1024x1_S1024x1024x16_2_0_n_n_0_2_116

/-- The gather of whole rows, read at `(i, j, h)`: the row that the start index names, clamped into the table, at `h`. -/
theorem rows_apply (B : S32x16.Idx → Elt F .f32) (s : S1024x1024x1.Idx → BitVec 32) (y : S1024x1024x16.Idx) :
    Host.gather rowsDims B s y = B (ix2 ⟨min (s (startOf y)).toInt.toNat 31, by omega⟩ (y 2)) := by
  unfold Host.gather
  congr 1
  funext a
  refine Fin.ext ?_
  show rowsDims.start y s a + rowsDims.batchCoord y a + rowsDims.offCoord y a = _
  rw [GatherDims.batchCoord_eq_zero _ _ _ List.not_mem_nil]
  have ha : a = 0 ∨ a = 1 := by fin_cases a <;> simp
  rcases ha with rfl | rfl
  · have h0 : (0 : Fin 2) ∈ rowsDims.startIndexMap := List.mem_singleton.mpr rfl
    rw [GatherDims.offCoord_eq_zero _ _ _ (fun h => ((GatherDims.mem_sKept _ _).mp h).1 (List.mem_singleton.mpr rfl))]
    unfold GatherDims.start
    rw [dif_pos h0]
    have hsi : rowsDims.siIdx y ⟨List.idxOf (0 : Fin 2) rowsDims.startIndexMap, List.idxOf_lt_length_iff.2 h0⟩ = startOf y := by
      funext b; refine Fin.ext ?_
      fin_cases b <;> rfl
    rw [hsi]
    rfl
  · have h1 : (1 : Fin 2) ∉ rowsDims.startIndexMap := fun h => absurd (List.mem_singleton.mp h) (by decide)
    have hk : (1 : Fin 2) ∈ rowsDims.sKept := (GatherDims.mem_sKept _ _).mpr ⟨fun h => absurd (List.mem_singleton.mp h) (by decide), List.not_mem_nil⟩
    unfold GatherDims.start GatherDims.offCoord
    rw [dif_neg h1, dif_pos hk]
    exact Nat.zero_add _

variable [FloatOps F]

/-- The reference's result where nothing is out of range. -/
theorem ref_looked (A : S1024x1024.Idx → BitVec 32) (hA : InVocab A) (B : S32x16.Idx → Elt F .f32) (M : S1024x1024.Idx → BitVec 1) (hM : ∀ j, M j = 1#1)
    (N : S1024x1024x16.Idx → Elt F .f32) :
    transpose S16x1024x1024 [2, 0, 1] (select (broadcastInDim S1024x1024x16 ![0, 1] bcast_S1024x1024_S1024x1024x16_0_1 M)
      (Host.gather rowsDims B (starts A)) N) transposes_S1024x1024x16_S16x1024x1024_2_0_1 = looked A hA B := by
  funext x
  let y : S1024x1024x16.Idx := ix3 (x 1) (x 2) (x 0)
  refine (transpose_apply _ _ _ x y (by intro b; fin_cases b <;> rfl)).trans ?_
  have hm : broadcastInDim S1024x1024x16 ![0, 1] bcast_S1024x1024_S1024x1024x16_0_1 M y = 1#1 := hM _
  show Scalar.select (broadcastInDim S1024x1024x16 ![0, 1] bcast_S1024x1024_S1024x1024x16_0_1 M y) (Host.gather rowsDims B (starts A) y) (N y) = _
  rw [hm]
  refine (select_one _ _).trans ((rows_apply B (starts A) _).trans ?_)
  refine congrArg (fun k => B (ix2 k (x 0))) (Fin.ext ?_)
  have e : starts A (startOf (ix3 (x 1) (x 2) (x 0))) = A (ix2 (x 1) (x 2)) := starts_apply A _
  have hw := hA (ix2 (x 1) (x 2))
  show min (starts A (startOf (ix3 (x 1) (x 2) (x 0)))).toInt.toNat 31 = (A (ix2 (x 1) (x 2))).toNat
  rw [e, BitVec.toInt_eq_toNat_cond, if_pos (by omega), Int.toNat_natCast]
  omega

end Reference

end Cert.Proof.Bias

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_vocab
public import proofs.«01_k».proof.Proof.Gen.ReferenceIdeal.Run
public import proofs.«01_k».proof.Proof.Values
public import Idealize.ShloMosaic.Adequacy
public import Idealize.ShloMosaic.Init

@[expose] public section

noncomputable section

namespace Cert.Proof

open Idealize.ShloMosaic Idealize.SL.Sem Cert.Kernel

open Cert.Proof.Bias

/-- The kernel on words: the run over any float values, read at the launch memory. -/
theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The reference is host operations alone and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where every distance is a row of the table, both runs end with the table's entry at each distance, heads first. -/
theorem values : Cert.algebraic_KernelIdeal_ReferenceIdeal_pre_in_vocab := by
  intro m ρ m' ρ' hpre hagree
  have hv : ∀ c, InVocab (dist m c) := fun c => inVocab_of_pre (F := Ideal) _ _ (hpre c)
  refine ⟨fun c => looked (dist m c) (hv c) (m (bLoc c)), ?_, ?_⟩
  · exact (θ_run Cert.KernelIdeal.defs _ _).mono
      (fun _ h c => ⟨((h.1 c).2.2).trans (out_looked (dist m c) (hv c) (m (bLoc c))), (h.1 c).1, (h.1 c).2.1⟩) (run_main (F := Ideal) m ρ)
  · refine (θ_run Cert.ReferenceIdeal.defs _ _).mono (fun _ h c => ⟨(h c).1.trans ?_, (h c).2⟩) (Cert.ReferenceIdeal.Value.run (F := Ideal) m' ρ')
    rw [(hagree c).1, (hagree c).2]
    rw [noWrap (m (aLoc c)) (hv c)]
    exact ref_looked (dist m c) (hv c) (m (bLoc c)) _ (fun j => inRange (dist m c) (hv c) j) _

theorem claim : Cert.Claim := ⟨Cert.Kernel.Gen.facts, Cert.KernelIdeal.Gen.facts, Cert.ReferenceIdeal.Gen.facts, Cert.Pre_in_vocab.Gen.facts,
  frame_kernel, frame_ideal, fun m ρ _ => frame_ideal m ρ trivial, frame_reference, fun m ρ _ => frame_reference m ρ trivial, trivial, values⟩

end Cert.Proof

end
